-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_corners_above_mask [hPre_corners_above_mask : Cert.Pre_corners_above_mask.Facts] (m : (ℓ : Loc Cert.KernelIdeal.nD Cert.KernelIdeal.τ Cert.KernelIdeal.sig) → Buf (Elt Ideal) ℓ) : Prop :=
  ∀ c : Dev Cert.KernelIdeal.nD,
    (Cert.Pre_corners_above_mask.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_corners_above_mask [hPre_corners_above_mask : Cert.Pre_corners_above_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_corners_above_mask.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_corners_above_mask [hKernelIdeal : Cert.KernelIdeal.Facts] [hPre_corners_above_mask : Cert.Pre_corners_above_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_corners_above_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_corners_above_mask [hReferenceIdeal : Cert.ReferenceIdeal.Facts] [hPre_corners_above_mask : Cert.Pre_corners_above_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_corners_above_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_corners_above_mask [hKernelIdeal : Cert.KernelIdeal.Facts] [hReferenceIdeal : Cert.ReferenceIdeal.Facts] [hPre_corners_above_mask : Cert.Pre_corners_above_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_corners_above_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_corners_above_mask : Cert.Pre_corners_above_mask.Facts),
    quiescent_Kernel (hKernel := hKernel)
    ∧ quiescent_KernelIdeal (hKernelIdeal := hKernelIdeal)
    ∧ quiescent_KernelIdeal_pre_corners_above_mask (hKernelIdeal := hKernelIdeal) (hPre_corners_above_mask := hPre_corners_above_mask)
    ∧ quiescent_ReferenceIdeal (hReferenceIdeal := hReferenceIdeal)
    ∧ quiescent_ReferenceIdeal_pre_corners_above_mask (hReferenceIdeal := hReferenceIdeal) (hPre_corners_above_mask := hPre_corners_above_mask)
    ∧ preserves_Kernel_KernelIdeal
    ∧ algebraic_KernelIdeal_ReferenceIdeal_pre_corners_above_mask (hKernelIdeal := hKernelIdeal) (hReferenceIdeal := hReferenceIdeal) (hPre_corners_above_mask := hPre_corners_above_mask)
-- ==== Pre_corners_above_mask.lean ====
abbrev S8x20000x93 : Shape := ⟨3, ![8, 20000, 93]⟩
abbrev S8x20000x81 : Shape := ⟨3, ![8, 20000, 81]⟩
abbrev S8x20000x1 : Shape := ⟨3, ![8, 20000, 1]⟩
abbrev S8x20000 : Shape := ⟨2, ![8, 20000]⟩
abbrev S_ : Shape := ⟨0, ![]⟩
abbrev S8x20000x6 : Shape := ⟨3, ![8, 20000, 6]⟩
abbrev S8x20000x4 : Shape := ⟨3, ![8, 20000, 4]⟩

class Facts : Prop where
  slices_S8x20000x93_S8x20000x81_0_0_0 : S8x20000x93.Slices ![0, 0, 0] S8x20000x81
  sliceFits_S8x20000x81_S8x20000x1 : S8x20000x81.Slices (fun _ => 0) S8x20000x1
  shapeCasts_S8x20000x1_S8x20000 : S8x20000x1.ShapeCasts S8x20000
  reducesTo_S8x20000x81_S8x20000_d2 : S8x20000x81.ReducesTo [2] S8x20000
  h_S_ : 0 < S_.numel
  slices_S8x20000x93_S8x20000x1_0_0_81 : S8x20000x93.Slices ![0, 0, 81] S8x20000x1
  slices_S8x20000x93_S8x20000x1_0_0_89 : S8x20000x93.Slices ![0, 0, 89] S8x20000x1
  slices_S8x20000x93_S8x20000x1_0_0_87 : S8x20000x93.Slices ![0, 0, 87] S8x20000x1
  slices_S8x20000x93_S8x20000x1_0_0_85 : S8x20000x93.Slices ![0, 0, 85] S8x20000x1
  slices_S8x20000x93_S8x20000x1_0_0_82 : S8x20000x93.Slices ![0, 0, 82] S8x20000x1
  slices_S8x20000x93_S8x20000x1_0_0_90 : S8x20000x93.Slices ![0, 0, 90] S8x20000x1
  slices_S8x20000x93_S8x20000x1_0_0_88 : S8x20000x93.Slices ![0, 0, 88] S8x20000x1
  slices_S8x20000x93_S8x20000x1_0_0_86 : S8x20000x93.Slices ![0, 0, 86] S8x20000x1
  slices_S8x20000x93_S8x20000x1_0_0_83 : S8x20000x93.Slices ![0, 0, 83] S8x20000x1
  slices_S8x20000x93_S8x20000x1_0_0_91 : S8x20000x93.Slices ![0, 0, 91] S8x20000x1
  slices_S8x20000x93_S8x20000x1_0_0_84 : S8x20000x93.Slices ![0, 0, 84] S8x20000x1
  slices_S8x20000x93_S8x20000x1_0_0_92 : S8x20000x93.Slices ![0, 0, 92] S8x20000x1
  bcast_S_S8x20000 : S_.BroadcastsInDim S8x20000 (![] : Fin 0 → Fin S8x20000.rank)
  bcast_S8x20000_S8x20000x1_0_1 : S8x20000.BroadcastsInDim S8x20000x1 (![0, 1] : Fin 2 → Fin S8x20000x1.rank)
  concatenates_S8x20000x1_S8x20000x1_S8x20000x1_S8x20000x1_S8x20000x1_S8x20000x1_S8x20000x6_d2 : Shape.Concatenates [S8x20000x1, S8x20000x1, S8x20000x1, S8x20000x1, S8x20000x1, S8x20000x1] S8x20000x6 2
  slices_S8x20000x6_S8x20000x4_0_0_2 : S8x20000x6.Slices ![0, 0, 2] S8x20000x4
  bcast_S_S8x20000x4 : S_.BroadcastsInDim S8x20000x4 (![] : Fin 0 → Fin S8x20000x4.rank)
  reducesTo_S8x20000x4_S_d0_1_2 : S8x20000x4.ReducesTo [0, 1, 2] S_

variable [Facts]

def fn_part3 {F : FTy → Type} [FloatOps F] (main_v2 : FVec F S8x20000 .f32) (main_v4 : FVec F S8x20000 .f32) (main_v26 : FVec F S8x20000 .f32) (main_v49 : FVec F S8x20000 .f32) (main_v54 : FVec F S8x20000 .f32) (main_v59 : FVec F S8x20000 .f32) (main_v61 : FVec F S8x20000 .f32) : IVec S_ 1 :=
  let main_v62 : FVec F S8x20000 .f32 := addf main_v26 main_v61
  let main_cst_7 : FVec F S_ .f32 := constant S_ .f32 0x44000000#32
  let main_v63 : FVec F S8x20000 .f32 := broadcastInDim S8x20000 ![] bcast_S_S8x20000 main_cst_7
  let main_v64 : FVec F S8x20000 .f32 := mulf main_v62 main_v63
  let main_v65 : FVec F S8x20000x1 .f32 := broadcastInDim S8x20000x1 ![0, 1] bcast_S8x20000_S8x20000x1_0_1 main_v2
  let main_v66 : FVec F S8x20000x1 .f32 := broadcastInDim S8x20000x1 ![0, 1] bcast_S8x20000_S8x20000x1_0_1 main_v4
  let main_v67 : FVec F S8x20000x1 .f32 := broadcastInDim S8x20000x1 ![0, 1] bcast_S8x20000_S8x20000x1_0_1 main_v49
  let main_v68 : FVec F S8x20000x1 .f32 := broadcastInDim S8x20000x1 ![0, 1] bcast_S8x20000_S8x20000x1_0_1 main_v54
  let main_v69 : FVec F S8x20000x1 .f32 := broadcastInDim S8x20000x1 ![0, 1] bcast_S8x20000_S8x20000x1_0_1 main_v59
  let main_v70 : FVec F S8x20000x1 .f32 := broadcastInDim S8x20000x1 ![0, 1] bcast_S8x20000_S8x20000x1_0_1 main_v64
  let main_v71 : FVec F S8x20000x6 .f32 := concatenate S8x20000x6 2 [⟨S8x20000x1, main_v65⟩, ⟨S8x20000x1, main_v66⟩, ⟨S8x20000x1, main_v67⟩, ⟨S8x20000x1, main_v68⟩, ⟨S8x20000x1, main_v69⟩, ⟨S8x20000x1, main_v70⟩] concatenates_S8x20000x1_S8x20000x1_S8x20000x1_S8x20000x1_S8x20000x1_S8x20000x1_S8x20000x6_d2
  let main_v72 : FVec F S8x20000x4 .f32 := (extractStridedSlice S8x20000x4 ![0, 0, 2] · slices_S8x20000x6_S8x20000x4_0_0_2) main_v71
  let main_cst_8 : FVec F S_ .f32 := constant S_ .f32 0xFF7FC99E#32
  let main_v73 : FVec F S8x20000x4 .f32 := broadcastInDim S8x20000x4 ![] bcast_S_S8x20000x4 main_cst_8
  let main_v74 : IVec S8x20000x4 1 := cmpf .oge main_v72 main_v73
  let main_c : IVec S_ 1 := constantI S_ 1 1#1
  let main_v75 : IVec S_ 1 := (fun x v => Host.reduce IntOp.andi x v reducesTo_S8x20000x4_S_d0_1_2 h_S_) main_v74 main_c
  main_v75

def fn_part2 {F : FTy → Type} [FloatOps F] (main_v2 : FVec F S8x20000 .f32) (main_v4 : FVec F S8x20000 .f32) (main_v15 : FVec F S8x20000 .f32) (main_v26 : FVec F S8x20000 .f32) (main_v35 : FVec F S8x20000 .f32) (main_v44 : FVec F S8x20000 .f32) : IVec S_ 1 :=
  let main_cst_0 : FVec F S_ .f32 := constant S_ .f32 0x3F000000#32
  let main_v45 : FVec F S8x20000 .f32 := broadcastInDim S8x20000 ![] bcast_S_S8x20000 main_cst_0
  let main_v46 : FVec F S8x20000 .f32 := mulf main_v45 main_v35
  let main_v47 : FVec F S8x20000 .f32 := subf main_v15 main_v46
  let main_cst_1 : FVec F S_ .f32 := constant S_ .f32 0x44000000#32
  let main_v48 : FVec F S8x20000 .f32 := broadcastInDim S8x20000 ![] bcast_S_S8x20000 main_cst_1
  let main_v49 : FVec F S8x20000 .f32 := mulf main_v47 main_v48
  let main_cst_2 : FVec F S_ .f32 := constant S_ .f32 0x3F000000#32
  let main_v50 : FVec F S8x20000 .f32 := broadcastInDim S8x20000 ![] bcast_S_S8x20000 main_cst_2
  let main_v51 : FVec F S8x20000 .f32 := mulf main_v50 main_v44
  let main_v52 : FVec F S8x20000 .f32 := subf main_v26 main_v51
  let main_cst_3 : FVec F S_ .f32 := constant S_ .f32 0x44000000#32
  let main_v53 : FVec F S8x20000 .f32 := broadcastInDim S8x20000 ![] bcast_S_S8x20000 main_cst_3
  let main_v54 : FVec F S8x20000 .f32 := mulf main_v52 main_v53
  let main_cst_4 : FVec F S_ .f32 := constant S_ .f32 0x3F000000#32
  let main_v55 : FVec F S8x20000 .f32 := broadcastInDim S8x20000 ![] bcast_S_S8x20000 main_cst_4
  let main_v56 : FVec F S8x20000 .f32 := mulf main_v55 main_v35
  let main_v57 : FVec F S8x20000 .f32 := addf main_v15 main_v56
  let main_cst_5 : FVec F S_ .f32 := constant S_ .f32 0x44000000#32
  let main_v58 : FVec F S8x20000 .f32 := broadcastInDim S8x20000 ![] bcast_S_S8x20000 main_cst_5
  let main_v59 : FVec F S8x20000 .f32 := mulf main_v57 main_v58
  let main_cst_6 : FVec F S_ .f32 := constant S_ .f32 0x3F000000#32
  let main_v60 : FVec F S8x20000 .f32 := broadcastInDim S8x20000 ![] bcast_S_S8x20000 main_cst_6
  let main_v61 : FVec F S8x20000 .f32 := mulf main_v60 main_v44
  fn_part3 (F := F) main_v2 main_v4 main_v26 main_v49 main_v54 main_v59 main_v61

def fn_part1 {F : FTy → Type} [FloatOps F] (main_arg0 : FVec F S8x20000x93 .f32) (main_v2 : FVec F S8x20000 .f32) (main_v4 : FVec F S8x20000 .f32) (main_v15 : FVec F S8x20000 .f32) (main_v20 : FVec F S8x20000 .f32) : IVec S_ 1 :=
  let main_v21 : FVec F S8x20000x1 .f32 := (extractStridedSlice S8x20000x1 ![0, 0, 88] · slices_S8x20000x93_S8x20000x1_0_0_88) main_arg0
  let main_v22 : FVec F S8x20000 .f32 := shapeCast S8x20000 main_v21 shapeCasts_S8x20000x1_S8x20000
  let main_v23 : FVec F S8x20000 .f32 := mulf main_v20 main_v22
  let main_v24 : FVec F S8x20000x1 .f32 := (extractStridedSlice S8x20000x1 ![0, 0, 86] · slices_S8x20000x93_S8x20000x1_0_0_86) main_arg0
  let main_v25 : FVec F S8x20000 .f32 := shapeCast S8x20000 main_v24 shapeCasts_S8x20000x1_S8x20000
  let main_v26 : FVec F S8x20000 .f32 := addf main_v23 main_v25
  let main_v27 : FVec F S8x20000x1 .f32 := (extractStridedSlice S8x20000x1 ![0, 0, 83] · slices_S8x20000x93_S8x20000x1_0_0_83) main_arg0
  let main_v28 : FVec F S8x20000 .f32 := shapeCast S8x20000 main_v27 shapeCasts_S8x20000x1_S8x20000
  let main_v29 : FVec F S8x20000x1 .f32 := (extractStridedSlice S8x20000x1 ![0, 0, 91] · slices_S8x20000x93_S8x20000x1_0_0_91) main_arg0
  let main_v30 : FVec F S8x20000 .f32 := shapeCast S8x20000 main_v29 shapeCasts_S8x20000x1_S8x20000
  let main_v31 : FVec F S8x20000 .f32 := mulf main_v28 main_v30
  let main_v32 : FVec F S8x20000 .f32 := Host.exp main_v31
  let main_v33 : FVec F S8x20000x1 .f32 := (extractStridedSlice S8x20000x1 ![0, 0, 87] · slices_S8x20000x93_S8x20000x1_0_0_87) main_arg0
  let main_v34 : FVec F S8x20000 .f32 := shapeCast S8x20000 main_v33 shapeCasts_S8x20000x1_S8x20000
  let main_v35 : FVec F S8x20000 .f32 := mulf main_v32 main_v34
  let main_v36 : FVec F S8x20000x1 .f32 := (extractStridedSlice S8x20000x1 ![0, 0, 84] · slices_S8x20000x93_S8x20000x1_0_0_84) main_arg0
  let main_v37 : FVec F S8x20000 .f32 := shapeCast S8x20000 main_v36 shapeCasts_S8x20000x1_S8x20000
  let main_v38 : FVec F S8x20000x1 .f32 := (extractStridedSlice S8x20000x1 ![0, 0, 92] · slices_S8x20000x93_S8x20000x1_0_0_92) main_arg0
  let main_v39 : FVec F S8x20000 .f32 := shapeCast S8x20000 main_v38 shapeCasts_S8x20000x1_S8x20000
  let main_v40 : FVec F S8x20000 .f32 := mulf main_v37 main_v39
  let main_v41 : FVec F S8x20000 .f32 := Host.exp main_v40
  let main_v42 : FVec F S8x20000x1 .f32 := (extractStridedSlice S8x20000x1 ![0, 0, 88] · slices_S8x20000x93_S8x20000x1_0_0_88) main_arg0
  let main_v43 : FVec F S8x20000 .f32 := shapeCast S8x20000 main_v42 shapeCasts_S8x20000x1_S8x20000
  let main_v44 : FVec F S8x20000 .f32 := mulf main_v41 main_v43
  fn_part2 (F := F) main_v2 main_v4 main_v15 main_v26 main_v35 main_v44

def fn {F : FTy → Type} [FloatOps F] (main_arg0 : FVec F S8x20000x93 .f32) : IVec S_ 1 :=
  let main_v0 : FVec F S8x20000x81 .f32 := (extractStridedSlice S8x20000x81 ![0, 0, 0] · slices_S8x20000x93_S8x20000x81_0_0_0) main_arg0
  let main_values : FVec F S8x20000x1 .f32 := (fun x => (Host.topK S8x20000x1 2 (FloatOps.cmpfTotal .gt) x sliceFits_S8x20000x81_S8x20000x1).1) main_v0
  let main_indices : IVec S8x20000x1 32 := (fun x => (Host.topK S8x20000x1 2 (FloatOps.cmpfTotal .gt) x sliceFits_S8x20000x81_S8x20000x1).2) main_v0
  let main_v1 : IVec S8x20000 32 := shapeCast S8x20000 main_indices shapeCasts_S8x20000x1_S8x20000
  let main_v2 : FVec F S8x20000 .f32 := sitofp .f32 main_v1
  let main_v3 : FVec F S8x20000x81 .f32 := (extractStridedSlice S8x20000x81 ![0, 0, 0] · slices_S8x20000x93_S8x20000x81_0_0_0) main_arg0
  let main_cst : FVec F S_ .f32 := constant S_ .f32 0xFF800000#32
  let main_v4 : FVec F S8x20000 .f32 := (fun x v => Host.reduce FloatOps.maximumf x v reducesTo_S8x20000x81_S8x20000_d2 h_S_) main_v3 main_cst
  let main_v5 : FVec F S8x20000x1 .f32 := (extractStridedSlice S8x20000x1 ![0, 0, 81] · slices_S8x20000x93_S8x20000x1_0_0_81) main_arg0
  let main_v6 : FVec F S8x20000 .f32 := shapeCast S8x20000 main_v5 shapeCasts_S8x20000x1_S8x20000
  let main_v7 : FVec F S8x20000x1 .f32 := (extractStridedSlice S8x20000x1 ![0, 0, 89] · slices_S8x20000x93_S8x20000x1_0_0_89) main_arg0
  let main_v8 : FVec F S8x20000 .f32 := shapeCast S8x20000 main_v7 shapeCasts_S8x20000x1_S8x20000
  let main_v9 : FVec F S8x20000 .f32 := mulf main_v6 main_v8
  let main_v10 : FVec F S8x20000x1 .f32 := (extractStridedSlice S8x20000x1 ![0, 0, 87] · slices_S8x20000x93_S8x20000x1_0_0_87) main_arg0
  let main_v11 : FVec F S8x20000 .f32 := shapeCast S8x20000 main_v10 shapeCasts_S8x20000x1_S8x20000
  let main_v12 : FVec F S8x20000 .f32 := mulf main_v9 main_v11
  let main_v13 : FVec F S8x20000x1 .f32 := (extractStridedSlice S8x20000x1 ![0, 0, 85] · slices_S8x20000x93_S8x20000x1_0_0_85) main_arg0
  let main_v14 : FVec F S8x20000 .f32 := shapeCast S8x20000 main_v13 shapeCasts_S8x20000x1_S8x20000
  let main_v15 : FVec F S8x20000 .f32 := addf main_v12 main_v14
  let main_v16 : FVec F S8x20000x1 .f32 := (extractStridedSlice S8x20000x1 ![0, 0, 82] · slices_S8x20000x93_S8x20000x1_0_0_82) main_arg0
  let main_v17 : FVec F S8x20000 .f32 := shapeCast S8x20000 main_v16 shapeCasts_S8x20000x1_S8x20000
  let main_v18 : FVec F S8x20000x1 .f32 := (extractStridedSlice S8x20000x1 ![0, 0, 90] · slices_S8x20000x93_S8x20000x1_0_0_90) main_arg0
  let main_v19 : FVec F S8x20000 .f32 := shapeCast S8x20000 main_v18 shapeCasts_S8x20000x1_S8x20000
  let main_v20 : FVec F S8x20000 .f32 := mulf main_v17 main_v19
  fn_part1 (F := F) main_arg0 main_v2 main_v4 main_v15 main_v20
-- ==== Kernel.lean ====
abbrev S8x20000x93 : Shape := ⟨3, ![8, 20000, 93]⟩
abbrev S_ : Shape := ⟨0, ![]⟩
abbrev S8x20096x93 : Shape := ⟨3, ![8, 20096, 93]⟩
abbrev S8x93x20096 : Shape := ⟨3, ![8, 93, 20096]⟩
abbrev S8x93x157x128 : Shape := ⟨4, ![8, 93, 157, 128]⟩
abbrev S8x200x6 : Shape := ⟨3, ![8, 200, 6]⟩
abbrev S1x93x157x128 : Shape := ⟨4, ![1, 93, 157, 128]⟩
abbrev S1x200x6 : Shape := ⟨3, ![1, 200, 6]⟩
abbrev S200x128 : Shape := ⟨2, ![200, 128]⟩
abbrev S1x1x157x128 : Shape := ⟨4, ![1, 1, 157, 128]⟩
abbrev S157x128 : Shape := ⟨2, ![157, 128]⟩
abbrev S1x128 : Shape := ⟨2, ![1, 128]⟩
abbrev S1x157x128 : Shape := ⟨3, ![1, 157, 128]⟩
abbrev S1 : Shape := ⟨1, ![1]⟩
abbrev S1x1x1 : Shape := ⟨3, ![1, 1, 1]⟩
abbrev S200x6 : Shape := ⟨2, ![200, 6]⟩

abbrev nBuf : Space → Nat
  | .hbm => 7
  | .vmem => 5
  | .smem => 0
  | _ => 0

abbrev bufTy : (tb : Table) → Fin (tcTables nBuf tb) → BufTy
  | .hbm, ⟨0, _⟩ => ⟨S8x20000x93, .f32⟩
  | .hbm, ⟨1, _⟩ => ⟨S_, .i32⟩
  | .hbm, ⟨2, _⟩ => ⟨S_, .f32⟩
  | .hbm, ⟨3, _⟩ => ⟨S8x20096x93, .f32⟩
  | .hbm, ⟨4, _⟩ => ⟨S8x93x20096, .f32⟩
  | .hbm, ⟨5, _⟩ => ⟨S8x93x157x128, .f32⟩
  | .hbm, ⟨6, _⟩ => ⟨S8x200x6, .f32⟩
  | .local _ .vmem, ⟨0, _⟩ => ⟨S1x93x157x128, .f32⟩
  | .local _ .vmem, ⟨1, _⟩ => ⟨S1x93x157x128, .f32⟩
  | .local _ .vmem, ⟨2, _⟩ => ⟨S1x200x6, .f32⟩
  | .local _ .vmem, ⟨3, _⟩ => ⟨S1x200x6, .f32⟩
  | .local _ .vmem, ⟨4, _⟩ => ⟨S200x128, .f32⟩
  | _, _ => ⟨S8x20000x93, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_call0_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c200_i32 : BitVec 32 := 200#32
  let v728 : BitVec 32 := Scalar.addi c0_i32 c200_i32
  let c1_i32 : BitVec 32 := 1#32
  ⟨c0_i32, v728, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v839 : Index := Scalar.indexCast arg4
  let c0_732 : Index := 0#32
  ![v839.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x93x157x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x20000x93 : Shape := ⟨3, ![8, 20000, 93]⟩
abbrev S8x20000x81 : Shape := ⟨3, ![8, 20000, 81]⟩
abbrev S8x20000x1 : Shape := ⟨3, ![8, 20000, 1]⟩
abbrev S8x20000 : Shape := ⟨2, ![8, 20000]⟩
abbrev S_ : Shape := ⟨0, ![]⟩
abbrev S8x20000x6 : Shape := ⟨3, ![8, 20000, 6]⟩
abbrev S400x8x6 : Shape := ⟨3, ![400, 8, 6]⟩
abbrev S400x8 : Shape := ⟨2, ![400, 8]⟩
abbrev S8x1 : Shape := ⟨2, ![8, 1]⟩
abbrev S8x1x1 : Shape := ⟨3, ![8, 1, 1]⟩
abbrev S8x1x6 : Shape := ⟨3, ![8, 1, 6]⟩
abbrev S8x6 : Shape := ⟨2, ![8, 6]⟩
abbrev S8 : Shape := ⟨1, ![8]⟩
abbrev S1x8x6 : Shape := ⟨3, ![1, 8, 6]⟩
abbrev S1x8 : Shape := ⟨2, ![1, 8]⟩
abbrev S8x400x6 : Shape := ⟨3, ![8, 400, 6]⟩
abbrev S8x400 : Shape := ⟨2, ![8, 400]⟩
abbrev S8x400x1 : Shape := ⟨3, ![8, 400, 1]⟩
abbrev S8x200 : Shape := ⟨2, ![8, 200]⟩
abbrev S8x200x1 : Shape := ⟨3, ![8, 200, 1]⟩
abbrev S8x200x6 : Shape := ⟨3, ![8, 200, 6]⟩

abbrev nBuf : Space → Nat
  | .hbm => 211
  | .vmem => 0
  | .smem => 0
  | _ => 0

abbrev hbmTy0_0 (i : Nat) : BufTy := match i % 128 with
  | 0 => ⟨S8x20000x93, .f32⟩
  | 1 => ⟨S8x20000x81, .f32⟩
  | 2 => ⟨S8x20000x1, .f32⟩
  | 3 => ⟨S8x20000x1, .i32⟩
  | 4 => ⟨S8x20000, .i32⟩
  | 5 => ⟨S8x20000, .f32⟩
  | 6 => ⟨S8x20000x81, .f32⟩
  | 7 => ⟨S_, .f32⟩
  | 8 => ⟨S8x20000, .f32⟩
  | 9 => ⟨S8x20000x1, .f32⟩
  | 10 => ⟨S8x20000, .f32⟩
  | 11 => ⟨S8x20000x1, .f32⟩
  | 12 => ⟨S8x20000, .f32⟩
  | 13 => ⟨S8x20000, .f32⟩
  | 14 => ⟨S8x20000x1, .f32⟩
  | 15 => ⟨S8x20000, .f32⟩
  | 16 => ⟨S8x20000, .f32⟩
  | 17 => ⟨S8x20000x1, .f32⟩
  | 18 => ⟨S8x20000, .f32⟩
  | 19 => ⟨S8x20000, .f32⟩
  | 20 => ⟨S8x20000x1, .f32⟩
  | 21 => ⟨S8x20000, .f32⟩
  | 22 => ⟨S8x20000x1, .f32⟩
  | 23 => ⟨S8x20000, .f32⟩
  | 24 => ⟨S8x20000, .f32⟩
  | 25 => ⟨S8x20000x1, .f32⟩
  | 26 => ⟨S8x20000, .f32⟩
  | 27 => ⟨S8x20000, .f32⟩
  | 28 => ⟨S8x20000x1, .f32⟩
  | 29 => ⟨S8x20000, .f32⟩
  | 30 => ⟨S8x20000, .f32⟩
  | 31 => ⟨S8x20000x1, .f32⟩
  | 32 => ⟨S8x20000, .f32⟩
  | 33 => ⟨S8x20000x1, .f32⟩
  | 34 => ⟨S8x20000, .f32⟩
  | 35 => ⟨S8x20000, .f32⟩
  | 36 => ⟨S8x20000, .f32⟩
  | 37 => ⟨S8x20000x1, .f32⟩
  | 38 => ⟨S8x20000, .f32⟩
  | 39 => ⟨S8x20000, .f32⟩
  | 40 => ⟨S8x20000x1, .f32⟩
  | 41 => ⟨S8x20000, .f32⟩
  | 42 => ⟨S8x20000x1, .f32⟩
  | 43 => ⟨S8x20000, .f32⟩
  | 44 => ⟨S8x20000, .f32⟩
  | 45 => ⟨S8x20000, .f32⟩
  | 46 => ⟨S8x20000x1, .f32⟩
  | 47 => ⟨S8x20000, .f32⟩
  | 48 => ⟨S8x20000, .f32⟩
  | 49 => ⟨S_, .f32⟩
  | 50 => ⟨S8x20000, .f32⟩
  | 51 => ⟨S8x20000, .f32⟩
  | 52 => ⟨S8x20000, .f32⟩
  | 53 => ⟨S_, .f32⟩
  | 54 => ⟨S8x20000, .f32⟩
  | 55 => ⟨S8x20000, .f32⟩
  | 56 => ⟨S_, .f32⟩
  | 57 => ⟨S8x20000, .f32⟩
  | 58 => ⟨S8x20000, .f32⟩
  | 59 => ⟨S8x20000, .f32⟩
  | 60 => ⟨S_, .f32⟩
  | 61 => ⟨S8x20000, .f32⟩
  | 62 => ⟨S8x20000, .f32⟩
  | 63 => ⟨S_, .f32⟩
  | 64 => ⟨S8x20000, .f32⟩
  | 65 => ⟨S8x20000, .f32⟩
  | 66 => ⟨S8x20000, .f32⟩
  | 67 => ⟨S_, .f32⟩
  | 68 => ⟨S8x20000, .f32⟩
  | 69 => ⟨S8x20000, .f32⟩
  | 70 => ⟨S_, .f32⟩
  | 71 => ⟨S8x20000, .f32⟩
  | 72 => ⟨S8x20000, .f32⟩
  | 73 => ⟨S8x20000, .f32⟩
  | 74 => ⟨S_, .f32⟩
  | 75 => ⟨S8x20000, .f32⟩
  | 76 => ⟨S8x20000, .f32⟩
  | 77 => ⟨S8x20000x1, .f32⟩
  | 78 => ⟨S8x20000x1, .f32⟩
  | 79 => ⟨S8x20000x1, .f32⟩
  | 80 => ⟨S8x20000x1, .f32⟩
  | 81 => ⟨S8x20000x1, .f32⟩
  | 82 => ⟨S8x20000x1, .f32⟩
  | 83 => ⟨S8x20000x6, .f32⟩
  | 84 => ⟨S8x20000x1, .f32⟩
  | 85 => ⟨S8x20000, .f32⟩
  | 86 => ⟨S8x20000x1, .f32⟩
  | 87 => ⟨S8x20000, .f32⟩
  | 88 => ⟨S_, .f32⟩
  | 89 => ⟨S8x20000, .f32⟩
  | 90 => ⟨S8x20000, .i1⟩
  | 91 => ⟨S_, .f32⟩
  | 92 => ⟨S8x20000, .f32⟩
  | 93 => ⟨S8x20000, .i1⟩
  | 94 => ⟨S8x20000, .i1⟩
  | 95 => ⟨S_, .f32⟩
  | 96 => ⟨S_, .f32⟩
  | 97 => ⟨S8x20000, .f32⟩
  | 98 => ⟨S8x20000, .f32⟩
  | 99 => ⟨S8x20000x1, .f32⟩
  | 100 => ⟨S8x20000, .f32⟩
  | 101 => ⟨S8x20000x1, .f32⟩
  | 102 => ⟨S8x20000, .f32⟩
  | 103 => ⟨S8x20000x1, .f32⟩
  | 104 => ⟨S8x20000, .f32⟩
  | 105 => ⟨S8x20000x1, .f32⟩
  | 106 => ⟨S8x20000, .f32⟩
  | 107 => ⟨S8x20000, .f32⟩
  | 108 => ⟨S_, .f32⟩
  | 109 => ⟨S8x20000, .f32⟩
  | 110 => ⟨S8x20000, .f32⟩
  | 111 => ⟨S8x20000, .f32⟩
  | 112 => ⟨S_, .f32⟩
  | 113 => ⟨S8x20000, .f32⟩
  | 114 => ⟨S8x20000, .f32⟩
  | 115 => ⟨S8x20000, .f32⟩
  | 116 => ⟨S8x20000, .i32⟩
  | 117 => ⟨S_, .f32⟩
  | 118 => ⟨S400x8x6, .f32⟩
  | 119 => ⟨S_, .i1⟩
  | 120 => ⟨S400x8, .i1⟩
  | 121 => ⟨S_, .i32⟩
  | 122 => ⟨S8x20000, .f32⟩
  | 123 => ⟨S8x20000, .f32⟩
  | 124 => ⟨S8x20000, .f32⟩
  | 125 => ⟨S8x20000, .f32⟩
  | 126 => ⟨S8x20000, .f32⟩
  | 127 => ⟨S8x20000, .i32⟩
  | _ => ⟨S8x20000x93, .f32⟩

abbrev hbmTy0_1 (i : Nat) : BufTy := match i % 128 with
  | 0 => ⟨S8x20000x6, .f32⟩
  | 1 => ⟨S_, .i32⟩
  | 2 => ⟨S8x20000, .f32⟩
  | 3 => ⟨S400x8x6, .f32⟩
  | 4 => ⟨S400x8, .i1⟩
  | 5 => ⟨S_, .i32⟩
  | 6 => ⟨S_, .i1⟩
  | 7 => ⟨S8x1, .f32⟩
  | 8 => ⟨S8x1, .i32⟩
  | 9 => ⟨S8x1x1, .i32⟩
  | 10 => ⟨S8x1, .f32⟩
  | 11 => ⟨S8x1x1, .i32⟩
  | 12 => ⟨S8x1, .f32⟩
  | 13 => ⟨S8x20000, .f32⟩
  | 14 => ⟨S8x20000, .f32⟩
  | 15 => ⟨S8x1x1, .i32⟩
  | 16 => ⟨S8x1, .f32⟩
  | 17 => ⟨S8x20000, .f32⟩
  | 18 => ⟨S8x20000, .f32⟩
  | 19 => ⟨S8x1x1, .i32⟩
  | 20 => ⟨S8x1, .f32⟩
  | 21 => ⟨S8x20000, .f32⟩
  | 22 => ⟨S8x20000, .f32⟩
  | 23 => ⟨S8x1x1, .i32⟩
  | 24 => ⟨S8x1, .f32⟩
  | 25 => ⟨S8x20000, .f32⟩
  | 26 => ⟨S8x20000, .f32⟩
  | 27 => ⟨S8x20000, .f32⟩
  | 28 => ⟨S_, .f32⟩
  | 29 => ⟨S8x20000, .f32⟩
  | 30 => ⟨S8x20000, .f32⟩
  | 31 => ⟨S8x20000, .f32⟩
  | 32 => ⟨S_, .f32⟩
  | 33 => ⟨S8x20000, .f32⟩
  | 34 => ⟨S8x20000, .f32⟩
  | 35 => ⟨S8x20000, .f32⟩
  | 36 => ⟨S8x1x1, .i32⟩
  | 37 => ⟨S8x1, .f32⟩
  | 38 => ⟨S8x20000, .f32⟩
  | 39 => ⟨S8x20000, .f32⟩
  | 40 => ⟨S8x20000, .f32⟩
  | 41 => ⟨S_, .f32⟩
  | 42 => ⟨S8x20000, .f32⟩
  | 43 => ⟨S8x20000, .f32⟩
  | 44 => ⟨S8x20000, .f32⟩
  | 45 => ⟨S_, .f32⟩
  | 46 => ⟨S8x20000, .f32⟩
  | 47 => ⟨S8x20000, .i1⟩
  | 48 => ⟨S8x20000, .i32⟩
  | 49 => ⟨S8x20000, .i1⟩
  | 50 => ⟨S8x20000, .i1⟩
  | 51 => ⟨S_, .f32⟩
  | 52 => ⟨S_, .f32⟩
  | 53 => ⟨S8x20000, .f32⟩
  | 54 => ⟨S8x20000, .f32⟩
  | 55 => ⟨S8x1x1, .i32⟩
  | 56 => ⟨S8x1x6, .f32⟩
  | 57 => ⟨S8x6, .f32⟩
  | 58 => ⟨S8, .f32⟩
  | 59 => ⟨S_, .f32⟩
  | 60 => ⟨S8, .f32⟩
  | 61 => ⟨S8, .i1⟩
  | 62 => ⟨S1x8x6, .f32⟩
  | 63 => ⟨S_, .i32⟩
  | 64 => ⟨S_, .i32⟩
  | 65 => ⟨S400x8x6, .f32⟩
  | 66 => ⟨S1x8, .i1⟩
  | 67 => ⟨S_, .i32⟩
  | 68 => ⟨S400x8, .i1⟩
  | 69 => ⟨S_, .i32⟩
  | 70 => ⟨S_, .i32⟩
  | 71 => ⟨S8x400x6, .f32⟩
  | 72 => ⟨S8x400, .i1⟩
  | 73 => ⟨S8x400x1, .i1⟩
  | 74 => ⟨S8x400x1, .f32⟩
  | 75 => ⟨S8x400x6, .f32⟩
  | 76 => ⟨S8x400x6, .f32⟩
  | 77 => ⟨S8x400x1, .f32⟩
  | 78 => ⟨S8x400, .f32⟩
  | 79 => ⟨S8x200, .f32⟩
  | 80 => ⟨S8x200, .i32⟩
  | 81 => ⟨S8x200x1, .i32⟩
  | 82 => ⟨S8x200x6, .f32⟩
  | _ => ⟨S8x20000x93, .f32⟩

abbrev hbmTy (i : Nat) : BufTy := match i / 128 with
  | 0 => hbmTy0_0 i
  | 1 => hbmTy0_1 i
  | _ => ⟨S8x20000x93, .f32⟩

abbrev bufTy : (tb : Table) → Fin (tcTables nBuf tb) → BufTy
  | .hbm, ⟨i, _⟩ => hbmTy i
  | _, _ => ⟨S8x20000x93, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_0 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_1 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_8 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_call0_v0 : Ref sig .tc := ⟨.hbm, 96, rfl⟩
abbrev main_call0_v1 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_12 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_13 : Ref sig .tc := ⟨.hbm, 117, rfl⟩
abbrev main_v98 : Ref sig .tc := ⟨.hbm, 118, rfl⟩
abbrev main_c : Ref sig .tc := ⟨.hbm, 119, rfl⟩
abbrev main_v99 : Ref sig .tc := ⟨.hbm, 120, rfl⟩
abbrev main_c_14 : Ref sig .tc := ⟨.hbm, 121, rfl⟩
abbrev main_v100_0 : Ref sig .tc := ⟨.hbm, 122, rfl⟩
abbrev main_v100_1 : Ref sig .tc := ⟨.hbm, 123, rfl⟩
abbrev main_v100_2 : Ref sig .tc := ⟨.hbm, 124, rfl⟩
abbrev main_v100_3 : Ref sig .tc := ⟨.hbm, 125, rfl⟩
abbrev main_v100_4 : Ref sig .tc := ⟨.hbm, 126, rfl⟩
abbrev main_v100_5 : Ref sig .tc := ⟨.hbm, 127, rfl⟩
abbrev main_v100_6 : Ref sig .tc := ⟨.hbm, 128, rfl⟩
abbrev main_v100_7 : Ref sig .tc := ⟨.hbm, 129, rfl⟩
abbrev main_v100_8 : Ref sig .tc := ⟨.hbm, 130, rfl⟩
abbrev main_v100_9 : Ref sig .tc := ⟨.hbm, 131, rfl⟩
abbrev main_v100_10 : Ref sig .tc := ⟨.hbm, 132, rfl⟩
abbrev main_while0c_c_27 : Ref sig .tc := ⟨.hbm, 133, rfl⟩
abbrev main_while0c_v111 : Ref sig .tc := ⟨.hbm, 134, rfl⟩
abbrev main_while0b_values_27 : Ref sig .tc := ⟨.hbm, 135, rfl⟩
abbrev main_while0b_indices_28 : Ref sig .tc := ⟨.hbm, 136, rfl⟩
abbrev main_while0b_v111 : Ref sig .tc := ⟨.hbm, 137, rfl⟩
abbrev main_while0b_v112 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_v121 : Ref sig .tc := ⟨.hbm, 147, rfl⟩
abbrev main_while0b_v122 : Ref sig .tc := ⟨.hbm, 148, rfl⟩
abbrev main_while0b_v123 : Ref sig .tc := ⟨.hbm, 149, rfl⟩
abbrev main_while0b_v124 : Ref sig .tc := ⟨.hbm, 150, rfl⟩
abbrev main_while0b_v125 : Ref sig .tc := ⟨.hbm, 151, rfl⟩
abbrev main_while0b_v126 : Ref sig .tc := ⟨.hbm, 152, rfl⟩
abbrev main_while0b_v127 : Ref sig .tc := ⟨.hbm, 153, rfl⟩
abbrev main_while0b_v128 : Ref sig .tc := ⟨.hbm, 154, rfl⟩
abbrev main_while0b_v129 : Ref sig .tc := ⟨.hbm, 155, rfl⟩
abbrev main_while0b_cst_29 : Ref sig .tc := ⟨.hbm, 156, rfl⟩
abbrev main_while0b_v130 : Ref sig .tc := ⟨.hbm, 157, rfl⟩
abbrev main_while0b_v131 : Ref sig .tc := ⟨.hbm, 158, rfl⟩
abbrev main_while0b_v132 : Ref sig .tc := ⟨.hbm, 159, rfl⟩
abbrev main_while0b_cst_30 : Ref sig .tc := ⟨.hbm, 160, rfl⟩
abbrev main_while0b_v133 : Ref sig .tc := ⟨.hbm, 161, rfl⟩
abbrev main_while0b_v134 : Ref sig .tc := ⟨.hbm, 162, rfl⟩
abbrev main_while0b_v135 : Ref sig .tc := ⟨.hbm, 163, rfl⟩
abbrev main_while0b_v136 : Ref sig .tc := ⟨.hbm, 164, rfl⟩
abbrev main_while0b_v137 : Ref sig .tc := ⟨.hbm, 165, rfl⟩
abbrev main_while0b_v138 : Ref sig .tc := ⟨.hbm, 166, rfl⟩
abbrev main_while0b_v139 : Ref sig .tc := ⟨.hbm, 167, rfl⟩
abbrev main_while0b_v140 : Ref sig .tc := ⟨.hbm, 168, rfl⟩
abbrev main_while0b_cst_31 : Ref sig .tc := ⟨.hbm, 169, rfl⟩
abbrev main_while0b_v141 : Ref sig .tc := ⟨.hbm, 170, rfl⟩
abbrev main_while0b_v142 : Ref sig .tc := ⟨.hbm, 171, rfl⟩
abbrev main_while0b_v143 : Ref sig .tc := ⟨.hbm, 172, rfl⟩
abbrev main_while0b_cst_32 : Ref sig .tc := ⟨.hbm, 173, rfl⟩
abbrev main_while0b_v144 : Ref sig .tc := ⟨.hbm, 174, rfl⟩
abbrev main_while0b_v145 : Ref sig .tc := ⟨.hbm, 175, rfl⟩
abbrev main_while0b_v146 : Ref sig .tc := ⟨.hbm, 176, rfl⟩
abbrev main_while0b_v147 : Ref sig .tc := ⟨.hbm, 177, rfl⟩
abbrev main_while0b_v148 : Ref sig .tc := ⟨.hbm, 178, rfl⟩
abbrev main_while0b_cst_33 : Ref sig .tc := ⟨.hbm, 179, rfl⟩
abbrev main_while0b_call1_v0 : Ref sig .tc := ⟨.hbm, 180, rfl⟩
abbrev main_while0b_call1_v1 : Ref sig .tc := ⟨.hbm, 181, rfl⟩
abbrev main_while0b_v149 : Ref sig .tc := ⟨.hbm, 182, rfl⟩
abbrev main_while0b_v150 : Ref sig .tc := ⟨.hbm, 183, rfl⟩
abbrev main_while0b_v151 : Ref sig .tc := ⟨.hbm, 184, rfl⟩
abbrev main_while0b_v152 : Ref sig .tc := ⟨.hbm, 185, rfl⟩
abbrev main_while0b_v153 : Ref sig .tc := ⟨.hbm, 186, rfl⟩
abbrev main_while0b_cst_34 : Ref sig .tc := ⟨.hbm, 187, rfl⟩
abbrev main_while0b_v154 : Ref sig .tc := ⟨.hbm, 188, rfl⟩
abbrev main_while0b_v155 : Ref sig .tc := ⟨.hbm, 189, rfl⟩
abbrev main_while0b_call2_v0 : Ref sig .tc := ⟨.hbm, 190, rfl⟩
abbrev main_while0b_call2_c : Ref sig .tc := ⟨.hbm, 191, rfl⟩
abbrev main_while0b_call2_c_0 : Ref sig .tc := ⟨.hbm, 192, rfl⟩
abbrev main_while0b_v156 : Ref sig .tc := ⟨.hbm, 193, rfl⟩
abbrev main_while0b_call3_v0 : Ref sig .tc := ⟨.hbm, 194, rfl⟩
abbrev main_while0b_call3_c : Ref sig .tc := ⟨.hbm, 195, rfl⟩
abbrev main_while0b_v157 : Ref sig .tc := ⟨.hbm, 196, rfl⟩
abbrev main_while0b_c_35 : Ref sig .tc := ⟨.hbm, 197, rfl⟩
abbrev main_while0b_v158 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_values_15 : Ref sig .tc := ⟨.hbm, 207, rfl⟩
abbrev main_indices_16 : Ref sig .tc := ⟨.hbm, 208, rfl⟩
abbrev main_v109 : Ref sig .tc := ⟨.hbm, 209, rfl⟩
abbrev main_v110 : Ref sig .tc := ⟨.hbm, 210, rfl⟩

abbrev nD : Nat := 1
abbrev τ : Topo := Topo.v7x

variable {F : FTy → Type} [FloatOps F]

abbrev main_while0_count : Scf.Loop 32 := ⟨0#32, 400#32, 1#32⟩
-- ==== Proof.Twin.lean ====
/-
  The kernel as printed and its idealization are one text: what is proved of the one at any float values holds of the other.
-/
module

public import proofs.«01_k».proof.Defs
public import proofs.«01_k».proof.Proof.Gen.Kernel
public import proofs.«01_k».proof.Proof.Gen.KernelIdeal

@[expose] public section
set_option maxRecDepth 16384

noncomputable section
namespace Cert.Twin
open Idealize.ShloMosaic Idealize.ShloMosaic.TcCoe
variable {F : FTy → Type} [FloatOps F]

theorem sig_eq : Cert.Kernel.sig = Cert.KernelIdeal.sig := rfl

theorem main_eq : @Cert.Kernel.main F _ Cert.Kernel.Gen.facts = @Cert.KernelIdeal.main F _ Cert.KernelIdeal.Gen.facts := rfl

theorem body_eq : @Cert.Kernel.cc0__nms_body F _ Cert.Kernel.Gen.facts = @Cert.KernelIdeal.cc0__nms_body F _ Cert.KernelIdeal.Gen.facts := rfl
theorem cfg_eq : @Cert.Kernel.cfg0 Cert.Kernel.Gen.facts = @Cert.KernelIdeal.cfg0 Cert.KernelIdeal.Gen.facts := rfl
theorem defs0_eq : @Cert.Kernel.defs₀ F _ Cert.Kernel.Gen.facts = @Cert.KernelIdeal.defs₀ F _ Cert.KernelIdeal.Gen.facts := by
  unfold Cert.Kernel.defs₀ Cert.KernelIdeal.defs₀
  congr 1
  funext a b
  match a, b with
  | 0, (t, s) => rfl
theorem defs_eq : @Cert.Kernel.defs F _ Cert.Kernel.Gen.facts = @Cert.KernelIdeal.defs F _ Cert.KernelIdeal.Gen.facts := by
  unfold Cert.Kernel.defs Cert.KernelIdeal.defs
  exact congrArg _ defs0_eq

end Cert.Twin
end
-- ==== Proof.Loop.lean ====
/-
  The kernel's loop of 200 trips, run: after `k` trips the carried scores are `k` iterates of one trip's scores, and the rows written into the
  scratch array are the trips' rows, the last trip's first.
-/
module

public import proofs.«01_k».proof.Proof.Gen.KernelIdeal.Skeleton
public import Idealize.ShloMosaic.Lib.Tactic
public import Idealize.ShloMosaic.Lib.Pipeline.Kit

@[expose] public section

set_option maxRecDepth 8192
set_option maxHeartbeats 4000000

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the loop reads at each position besides the score: class, corners, area. -/
structure Items (F : FTy → Type) [FloatOps F] where
  cls : FVec F S157x128 .f32
  x1 : FVec F S157x128 .f32
  y1 : FVec F S157x128 .f32
  x2 : FVec F S157x128 .f32
  y2 : FVec F S157x128 .f32
  area : FVec F S157x128 .f32

/-- The lane numbers of a row. -/
def lanes : IVec S1x128 32 := iota .tc S1x128 32 [1] iota_S1x128_d1_w32

/-- The scores a trip leaves. -/
def nextOf (I : Items F) (s : FVec F S157x128 .f32) : FVec F S157x128 .f32 :=
  k0_pay9 I.x1 I.y1 I.x2 I.y2 I.area s (k0_pay3 k0_pay62 s) (k0_pay4 I.x1 k0_pay62 s) (k0_pay5 I.y1 k0_pay62 s) (k0_pay6 I.x2 k0_pay62 s)
    (k0_pay7 I.y2 k0_pay62 s) (k0_pay8 I.area k0_pay62 s)

/-- The row a trip writes. -/
def rowOf (I : Items F) (s : FVec F S157x128 .f32) : FVec F S1x128 .f32 :=
  k0_pay64 (k0_pay6 I.x2 k0_pay62 s) (k0_pay7 I.y2 k0_pay62 s) (Scalar.cmpf .ogt (k0_pay2 s) (Scalar.ofBits .f32 0x00000000#32))
    (k0_pay10 lanes) (k0_pay11 I.cls (k0_pay2 s) (k0_pay3 k0_pay62 s) (Scalar.ofBits .f32 0xFF7FC99E#32))
    (k0_pay12 lanes) (k0_pay13 (k0_pay2 s)) (k0_pay14 lanes) (k0_pay15 (k0_pay2 s) (k0_pay4 I.x1 k0_pay62 s))
    (k0_pay16 lanes) (k0_pay17 (k0_pay2 s) (k0_pay5 I.y1 k0_pay62 s))

/-- The scores before trip `k`, from the scores `s`. -/
def scores (I : Items F) (s : FVec F S157x128 .f32) (k : ℕ) : FVec F S157x128 .f32 := (nextOf I)^[k] s

theorem scores_succ (I : Items F) (s : FVec F S157x128 .f32) (k : ℕ) : scores I s (k + 1) = nextOf I (scores I s k) :=
  Function.iterate_succ_apply' _ _ _

/-- Trip `k`'s write: its row at row `k`. -/
def piece (I : Items F) (s : FVec F S157x128 .f32) (k : Fin k0_t1_loop.trips) : View.Piece (Elt F) S200x128 .f32 :=
  ⟨Rect.unit (s := S200x128) (k0_off1 k) S1x128.size (k0_off1_inb k), rowOf I (scores I s k.val)⟩

/-- The writes of the trips before trip `k`, the last first. -/
def pieces (I : Items F) (s : FVec F S157x128 .f32) : ℕ → List (View.Piece (Elt F) S200x128 .f32)
  | 0 => []
  | k + 1 => if h : k < k0_t1_loop.trips then piece I s ⟨k, h⟩ :: pieces I s k else pieces I s k

theorem pieces_succ (I : Items F) (s : FVec F S157x128 .f32) (k : Fin k0_t1_loop.trips) :
    pieces I s (k.val + 1) = [piece I s k] ++ pieces I s k.val := dif_pos k.isLt

section Trip

variable (𝒱 : Variants) (c : Dev nD) (bd : Option 𝒱.V) (E : Set ℕ) (i : grid0.Coords)
  (arg1 : Memref sig .tc .vmem S1x93x157x128 .f32) (harg1 : arg1.IsWhole) (arg2 : Memref sig .tc .vmem S1x200x6 .f32) (harg2 : arg2.IsWhole)
  (arg3 : Memref sig .tc .vmem S200x128 .f32) (harg3 : arg3.IsWhole)
  (v647 v688 v693 v698 v703 v710 : FVec F S157x128 .f32)

/-- One trip at carried scores `acc`: it yields the trip's scores and writes the trip's row at row `k`. -/
theorem trip (k : Fin k0_t1_loop.trips) (acc : FVec F S157x128 .f32) (f : BufTy.Contents (Elt F) arg3.view.ty) :
    iprop((arg3.view.loc (c : Thread nD τ) ↦[arg3.view.set]{fullShare} f) : sProp 𝕄)
      ⊢ wp frame (wpE (defs₀ (F := F)) 𝒱 (c : Thread nD τ) bd) E
          (k0_t1_body (F := F) i arg1 harg1 arg2 harg2 arg3 harg3 v647 v688 v693 v698 v703 v710 lanes k acc)
          (fun yld => iprop(⌜yld = nextOf ⟨v647, v688, v693, v698, v703, v710⟩ acc⌝
            ∗ (arg3.view.loc (c : Thread nD τ) ↦[arg3.view.set]{fullShare} arg3.view.writes (Elt F) f
                [⟨Rect.unit (s := S200x128) (k0_off1 k) S1x128.size (k0_off1_inb k), rowOf ⟨v647, v688, v693, v698, v703, v710⟩ acc⟩]))) := by
  have hk : k.val < 200 := Nat.lt_of_lt_of_le k.isLt k0_t1_abs.2.1
  unfold k0_t1_body
  iintro HW
  sl_exec
  sl_step
  isplitr
  · ipureintro; rfl
  iexact HW

set_option warn.classDefReducibility false in
/-- The loop by its invariant: the scratch array holds the writes of the trips before, and the carried scores are the iterate. -/
@[sl_loop] def loopInv (G : BufTy.Contents (Elt F) arg3.view.ty) (init : FVec F S157x128 .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 v647 v688 v693 v698 v703 v710 lanes) where
  inv k acc := iprop((∃ f, (arg3.view.loc (c : Thread nD τ) ↦[arg3.view.set]{fullShare} f)
      ∗ ⌜f = arg3.view.writes (Elt F) G (pieces ⟨v647, v688, v693, v698, v703, v710⟩ init k)⌝)
      ∗ ⌜acc = scores ⟨v647, v688, v693, v698, v703, v710⟩ init k⌝)
  step k acc := by
    iintro ⟨⟨%f, HW, %hf⟩, %hacc⟩
    subst hacc
    iapply (wp_wand_r Idealize.ShloMosaic.frame (wpE (defs₀ (F := F)) 𝒱 (c : Thread nD τ) bd) E)
    isplitl [HW]
    · iapply (trip 𝒱 c bd E i arg1 harg1 arg2 harg2 arg3 harg3 v647 v688 v693 v698 v703 v710 k _ f)
      iexact HW
    · iintro %yld ⟨%hy, HW⟩
      simp only [pieces_succ, scores_succ]
      isplitl [HW]
      · iexists _; isplitl [HW]; · iexact HW
        ipureintro; rw [hf, View.writes_append]; rfl
      ipureintro; rw [hy]

end Trip

end Cert.KernelRun

end
-- ==== Proof.Body.lean ====
/-
  One run of the kernel's body: from the input block it leaves in the output block the first six lanes of the 200 rows its loop writes.
-/
module

public import proofs.«01_k».proof.Proof.Loop
public import Idealize.ShloMosaic.Lib.Pipeline.FrameBody
public import Idealize.ShloMosaic.Lib.WholeRead
public import Idealize.ShloMosaic.Lib.Writes
public import Idealize.ShloMosaic.Lib.ValueIdxCore

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ (UR sig nD τ) ℕ

/-! ## What the body computes from its input block -/

/-- Slab `k` of an input block. -/
def slab (x0 : Vec F S1x93x157x128 .f32) (k : ℕ) : Vec F S1x1x157x128 .f32 := fun z => x0 (ix4 (0 : Fin 1) (Fin.ofNat 93 k) (z 2) (z 3))

/-- Slab `k` as a grid. -/
def grid (s : ℕ → Vec F S1x1x157x128 .f32) (k : ℕ) : FVec F S157x128 .f32 := shapeCast S157x128 (s k) shapeCasts_S1x1x157x128_S157x128

/-- The confidences: the greatest of the 81 class slabs. -/
def conf68 (s : ℕ → Vec F S1x1x157x128 .f32) : FVec F S157x128 .f32 :=
  k0_pay27 (k0_pay26 (k0_pay25 (k0_pay24 (k0_pay22 (k0_pay21 (k0_pay20 (k0_pay19
    (k0_pay18 (s 0) (s 1) (s 2) (s 3) (s 4) (s 5) (s 6) (s 7))
    (s 8) (s 9) (s 10) (s 11) (s 12) (s 13) (s 14) (s 15) (s 16))
    (s 17) (s 18) (s 19) (s 20) (s 21) (s 22) (s 23) (s 24))
    (s 25) (s 26) (s 27) (s 28) (s 29) (s 30) (s 31) (s 32) (s 33))
    (s 34) (s 35) (s 36) (s 37) (s 38) (s 39) (s 40) (s 41))
    (k0_pay23 (s 42)) (s 43) (s 44) (s 45) (s 46) (s 47) (s 48) (s 49) (s 50))
    (s 51) (s 52) (s 53) (s 54) (s 55) (s 56) (s 57) (s 58) (s 59))
    (s 60) (s 61) (s 62) (s 63) (s 64) (s 65) (s 66) (s 67))
    (s 68) (s 69) (s 70) (s 71) (s 72) (s 73) (s 74) (s 75) (s 76)

@[inherit_doc conf68] def conf (s : ℕ → Vec F S1x1x157x128 .f32) : FVec F S157x128 .f32 :=
  k0_pay28 (conf68 s) (s 77) (s 78) (s 79) (s 80)

/-- The classes, from the confidences `c`: the least class whose slab is equal to the confidence. -/
def clsAt (c : FVec F S157x128 .f32) (p : FVec F S157x128 .f32) (s : ℕ → Vec F S1x1x157x128 .f32) : FVec F S157x128 .f32 :=
  k0_pay42 c (k0_pay41 c (k0_pay40 c (k0_pay39 c (k0_pay38 c (k0_pay37 c (k0_pay36 c (k0_pay35 c (k0_pay34 c (k0_pay33 c
    (k0_pay32 c (k0_pay31 c (k0_pay30 c p
    (s 77) (s 76) (s 75) (s 74) (s 73) (s 72))
    (s 71) (s 70) (s 69) (s 68) (s 67) (s 66))
    (s 65) (s 64) (s 63) (s 62) (s 61) (s 60))
    (s 59) (s 58) (s 57) (s 56) (s 55) (s 54))
    (s 53) (s 52) (s 51) (s 50) (s 49) (s 48))
    (s 47) (s 46) (s 45) (s 44) (s 43) (s 42))
    (s 41) (s 40) (s 39) (s 38) (s 37) (s 36))
    (s 35) (s 34) (s 33) (s 32) (s 31) (s 30))
    (s 29) (s 28) (s 27) (s 26) (s 25) (s 24))
    (s 23) (s 22) (s 21) (s 20) (s 19) (s 18))
    (s 17) (s 16) (s 15) (s 14) (s 13) (s 12))
    (s 11) (s 10) (s 9) (s 8) (s 7) (s 6))
    (s 5) (s 4) (s 3) (s 2) (s 1) (s 0)

@[inherit_doc clsAt] def cls (s : ℕ → Vec F S1x1x157x128 .f32) : FVec F S157x128 .f32 :=
  clsAt (conf s) (k0_pay29 (conf68 s) (s 77) (s 78) (s 79) (s 80) (s 80) (s 79) (s 78)) s

/-- The classes, corners and areas. -/
def itemsOf (s : ℕ → Vec F S1x1x157x128 .f32) : Items F where
  cls := cls s
  x1 := k0_pay57 (grid s 81) (grid s 83) (grid s 85) (grid s 87) (grid s 89) (s 91)
  y1 := k0_pay58 (grid s 82) (grid s 84) (grid s 86) (grid s 88) (grid s 90) (s 92)
  x2 := k0_pay59 (grid s 81) (grid s 83) (grid s 85) (grid s 87) (grid s 89) (s 91)
  y2 := k0_pay60 (grid s 82) (grid s 84) (grid s 86) (grid s 88) (grid s 90) (s 92)
  area := k0_pay61 (grid s 81) (grid s 82) (grid s 83) (grid s 84) (grid s 85) (grid s 86) (grid s 87) (grid s 88) (grid s 89) (grid s 90) (s 91) (s 92)

/-- The scores before the first trip. -/
def startOf (s : ℕ → Vec F S1x1x157x128 .f32) : FVec F S157x128 .f32 := k0_pay63 (conf s) (cls s)

/-- The rows the loop writes, their first six lanes. -/
def rowsOf (s : ℕ → Vec F S1x1x157x128 .f32) : Vec F S200x6 .f32 :=
  fun j => rowOf (itemsOf s) (scores (itemsOf s) (startOf s) (j 0).val) (ix2 (0 : Fin 1) ((j 1).castLE (by decide)))

/-- The output block. -/
def outBlock (x0 : Vec F S1x93x157x128 .f32) : Vec F S1x200x6 .f32 := k0_pay1 (rowsOf (slab x0))

/-! ## Reading the slabs and the rows -/

theorem readAt_slab {arg1 : Memref sig .tc .vmem S1x93x157x128 .f32} (harg1 : arg1.IsWhole) (x0 : Vec F S1x93x157x128 .f32) (k : ℕ)
    (h : ∀ a, (![0, k, 0, 0] : Fin 4 → ℕ) a + S1x1x157x128.size a ≤ S1x93x157x128.size a) :
    View.readAt (Elt F) arg1.view (Rect.unit (s := S1x93x157x128) ![0, k, 0, 0] S1x1x157x128.size h).toLoadRect (harg1.unread x0) = slab x0 k := by
  have hk : k < 93 := by have := h 1; simp [S1x1x157x128, S1x93x157x128] at this; omega
  funext z
  refine (harg1.readAt_unread x0 _ z).trans (congrArg x0 (funext fun a => Fin.ext ?_))
  match a with
  | 0 => exact (by have := (z 0).isLt; simpa [S1x1x157x128] using this)
  | 1 =>
    have hz : (z 1).val = 0 := Nat.lt_one_iff.mp (z 1).isLt
    exact (by simp [hz]; exact (Nat.mod_eq_of_lt hk).symm)
  | 2 => exact (by simp)
  | 3 => exact (by simp)

/-- Row `i` of the writes of `n > i` trips is the row of trip `i`. -/
theorem read_pieces (I : Items F) (s : FVec F S157x128 .f32) {arg3 : Memref sig .tc .vmem S200x128 .f32} (f : BufTy.Contents (Elt F) arg3.view.ty)
    (y : S200x128.Idx) : ∀ n, n ≤ k0_t1_loop.trips → (y 0).val < n →
      arg3.view.read (Elt F) (arg3.view.writes (Elt F) f (pieces I s n)) y = rowOf I (scores I s (y 0).val) (ix2 (0 : Fin 1) (y 1))
  | 0, _, h => absurd h (Nat.not_lt_zero _)
  | n + 1, hn, h => by
    rw [pieces_succ I s ⟨n, hn⟩]
    by_cases hy : (y 0).val = n
    · refine (View.read_writes_cons_hit_of_coords _ _ _ _ _ (ix2 (0 : Fin 1) (y 1)) y ?_).trans ?_
      · intro a
        simp only [Rect.unit, k0_off1_eq]
        match a with
        | 0 => exact (by simp [hy])
        | 1 => exact (by simp)
      · rw [hy]; rfl
    · refine (View.read_writes_cons_miss_of_axis _ _ _ _ y 0 n 1 ?_ rfl rfl (Or.inl (by omega))).trans
        (read_pieces I s f y n (Nat.le_of_succ_le hn) (by omega))
      exact congrFun (k0_off1_eq ⟨n, hn⟩) 0

theorem trips_eq : k0_t1_loop.trips = 200 := by decide +kernel

theorem readCov_pieces (s : ℕ → Vec F S1x1x157x128 .f32) (arg3 : Memref sig .tc .vmem S200x128 .f32) :
    arg3.view.readCov (pieces (itemsOf s) (startOf s) k0_t1_loop.trips) (Rect.unit (s := S200x128) ![0, 0] S200x6.size inb_S200x128_S200x6_0_0).toLoadRect
      = rowsOf s := by
  funext j
  refine (read_pieces (itemsOf s) (startOf s) arg3.view.junk _ _ le_rfl ?_).trans ?_
  · rw [trips_eq]; exact (by have := (j 0).isLt; simpa using this)
  · have h0 : ((Rect.unit (s := S200x128) ![0, 0] S200x6.size inb_S200x128_S200x6_0_0).idx j 0).val = (j 0).val := by simp
    have h1 : (Rect.unit (s := S200x128) ![0, 0] S200x6.size inb_S200x128_S200x6_0_0).idx j 1 = (j 1).castLE (by decide) := Fin.ext (by simp; rfl)
    rw [h0, h1]; rfl

/-! ## The run -/

theorem read_writes_block (arg2 : Memref sig .tc .vmem S1x200x6 .f32) (f : BufTy.Contents (Elt F) arg2.view.ty) (w : Vec F S1x200x6 .f32) :
    arg2.view.read (Elt F) (arg2.view.writes (Elt F) f [⟨Rect.unit (s := S1x200x6) ![0, 0, 0] ![1, 200, 6] inb_S1x200x6_S1x200x6_0_0_0, w⟩]) = w := by
  funext y
  exact View.read_writes_cons_hit_of_coords arg2.view f (Rect.unit (s := S1x200x6) ![0, 0, 0] ![1, 200, 6] inb_S1x200x6_S1x200x6_0_0_0) w [] y y
    fun a => by
      match a with
      | 0 => exact (by simp)
      | 1 => exact (by simp)
      | 2 => exact (by simp)

set_option maxHeartbeats 1000000 in
/-- The body's run, with what it leaves in the output block. -/
def bodyRaw (c : Dev nD) (i : grid0.Coords) (arg1 : Memref sig .tc .vmem S1x93x157x128 .f32) (harg1 : arg1.IsWhole) (arg2 : Memref sig .tc .vmem S1x200x6 .f32) (harg2 : arg2.IsWhole) (arg3 : Memref sig .tc .vmem S200x128 .f32) (harg3 : arg3.IsWhole)
    (x0 : Vec F S1x93x157x128 .f32) :
    { w : Vec F S1x200x6 .f32 // ∀ (E : Set ℕ) (K : PUnit → sProp 𝕄),
      iprop(owns (c : Thread nD τ) arg1 fullShare x0 ∗ (∃ d, owns (c : Thread nD τ) arg2 fullShare d) ∗ (∃ d, owns (c : Thread nD τ) arg3 fullShare d)
          ∗ (iprop(owns (c : Thread nD τ) arg1 fullShare x0 ∗ owns (c : Thread nD τ) arg2 fullShare w ∗ (∃ d, owns (c : Thread nD τ) arg3 fullShare d)) -∗ K ⟨⟩))
        ⊢ wp frame (wpE (defs₀ (F := F)) Variants.none c none) E (cc0__nms_body i arg1 harg1 arg2 harg2 arg3 harg3) K } := by
  refine ⟨?_, fun E K => ?_⟩
  rotate_left
  · simp only [cc0__nms_body_eq_skeleton]; unfold cc0__nms_body_skel
    simp only [k0_part28_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%d1, %f1, -, H1⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]
    · iexists _; isplitr; swap; · iexact H1
      ipureintro
      exact read_writes_block (F := F) arg2 _ _
    iexists _, _; isplitr; swap; · iexact HS0
    ipureintro; rfl

end Cert.KernelRun

end
-- ==== Proof.BodyEq.lean ====
/-
  What the body's run leaves in the output block is the block computed from its input block.
-/
module

public import proofs.«01_k».proof.Proof.Body

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

theorem bodyRaw_eq (c : Dev nD) (i : grid0.Coords) (arg1 : Memref sig .tc .vmem S1x93x157x128 .f32) (harg1 : arg1.IsWhole) (arg2 : Memref sig .tc .vmem S1x200x6 .f32) (harg2 : arg2.IsWhole) (arg3 : Memref sig .tc .vmem S200x128 .f32) (harg3 : arg3.IsWhole)
    (x0 : Vec F S1x93x157x128 .f32) : (bodyRaw c i arg1 harg1 arg2 harg2 arg3 harg3 x0).1 = outBlock x0 := by
  show k0_pay1 (bodyRaw.sl.v730 c arg1 harg1 arg3 x0) = k0_pay1 (rowsOf (slab x0))
  refine congrArg k0_pay1 (Eq.trans ?_ (readCov_pieces (slab x0) arg3))
  simp only [bodyRaw.sl.v730, bodyRaw.sl.r, bodyRaw.sl.r_1, bodyRaw.sl.r_2, bodyRaw.sl.r_3, bodyRaw.sl.r_4, bodyRaw.sl.r_5, bodyRaw.sl.r_6, bodyRaw.sl.r_7, bodyRaw.sl.r_8, bodyRaw.sl.r_9, bodyRaw.sl.r_10, bodyRaw.sl.r_11, bodyRaw.sl.r_12, bodyRaw.sl.r_13, bodyRaw.sl.r_14, bodyRaw.sl.r_15, bodyRaw.sl.r_16, bodyRaw.sl.r_17, bodyRaw.sl.r_18, bodyRaw.sl.r_19, bodyRaw.sl.r_20, bodyRaw.sl.r_21, bodyRaw.sl.r_22, bodyRaw.sl.r_23, bodyRaw.sl.r_24, bodyRaw.sl.r_25, bodyRaw.sl.r_26, bodyRaw.sl.r_27, bodyRaw.sl.r_28, bodyRaw.sl.r_29, bodyRaw.sl.r_30, bodyRaw.sl.v649, bodyRaw.sl.v651, bodyRaw.sl.v653, bodyRaw.sl.v655, bodyRaw.sl.v657, bodyRaw.sl.v659, bodyRaw.sl.v661, bodyRaw.sl.v663, bodyRaw.sl.v665, bodyRaw.sl.v667, readAt_slab harg1 x0]
  simp only [itemsOf, startOf, cls, clsAt, conf, conf68, grid]

end Cert.KernelRun

end
-- ==== Proof.Launch.lean ====
/-
  The kernel's run: every image's rows end in the result array, the argument is unchanged, and no counter is left raised.
-/
module

public import proofs.«01_k».proof.Proof.BodyEq
public import proofs.«01_k».proof.Proof.Gen.KernelIdeal.Frame
public import Idealize.ShloMosaic.Lib.Pipeline.Value

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Image `b`'s block of the kernel's operand. -/
def blockOf (x : Vec F S8x93x157x128 .f32) (b : Fin 8) : Vec F S1x93x157x128 .f32 := fun z => x (ix4 b (z 1) (z 2) (z 3))

/-- The result array made of the operand `x`. -/
def resultOf (x : Vec F S8x93x157x128 .f32) : Vec F S8x200x6 .f32 :=
  fun i => outBlock (blockOf x (i 0)) (ix3 (0 : Fin 1) (i 1) (i 2))

/-- The operand as the kernel finds it. -/
abbrev operand (c : Dev nD) : Vec F S8x93x157x128 .f32 := V m c main_call0_v2

/-- Each window's staging memref at point `t`, and its wholeness. -/
abbrev inM (t : Fin cfg0.N) : Memref sig .tc .vmem S1x93x157x128 .f32 := win0_0.stage (cfg0.slots t 0)
abbrev inW (t : Fin cfg0.N) : (inM t).IsWhole := hstage0_0 ((cfg0.slots t 0).cast nbuf0_0)
abbrev outM (t : Fin cfg0.N) : Memref sig .tc .vmem S1x200x6 .f32 := win0_1.stage (cfg0.slots t 1)
abbrev outW (t : Fin cfg0.N) : (outM t).IsWhole := hstage0_1 ((cfg0.slots t 1).cast nbuf0_1)
abbrev scrM : Memref sig .tc .vmem S200x128 .f32 := Memref.whole cc0_scratch0

/-- The invariant between points: the scratch at some contents, and the generator register. -/
theorem inv_eq (c : Dev nD) :
    (Pipeline.ΦA spec0 c : sProp 𝕄) = iprop(iprop((∃ d, owns (c : Thread nD τ) scrM fullShare d)) ∗ (∃ r, prngReg c r)) := by
  unfold Pipeline.ΦA; rw [scopedRest0_eq]; simp only [scrM, owns_whole]; try rfl

/-! ## The launch's data -/

/-- The pipeline's data: after point `t` the input's buffer holds its block, the output's the block made of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem dats_A (c : Dev nD) (w : Fin cfg0.W) : (dats m 0 c).A w = V m c (Pipeline.arrRef spec0 w) := by dsimp only [dats]
theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]
theorem before_in (c : Dev nD) (t : Fin cfg0.N) (d) : (dats m 0 c).before 0 t d = iblk m c 0 t :=
  before0_0_of m (dats m 0 c) (dats_A m c 0) (after_in m c) t d

/-! ## The body's obligation -/

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it leaves. -/
def bodyPost (c : Dev nD) (t : Fin cfg0.N) : sProp 𝕄 :=
  iprop((dats m 0 c).Φ t.succ ∗ (dats m 0 c).owesAt () t.succ
    ∗ owns (c : Thread nD τ) (inM t) fullShare ((dats m 0 c).after 0 t)
    ∗ owns (c : Thread nD τ) (outM t) fullShare ((dats m 0 c).after 1 t))

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  rw [show (dats m 0 c).Φ t.castSucc = Pipeline.ΦA spec0 c from rfl, inv_eq]
  have hb := (bodyRaw (F := F) c (grid0.coords t) (inM t) (inW t) (outM t) (outW t) scrM (Memref.isWhole_whole _) (iblk m c 0 t)).2
  rw [bodyRaw_eq] at hb
  iintro ⟨⟨HS0, Hg⟩, Ho, ⟨%d0, H0⟩, ⟨%d1, H1⟩⟩
  iapply (hb Set.univ _)
  isplitl [H0]; · iexact H0
  isplitl [H1]; · iexists _; iexact H1
  isplitl [HS0]; · iexact HS0
  iintro ⟨H0, H1, HS0⟩
  isplitl [HS0 Hg]
  · isplitl [HS0]
    · iexact HS0
    iexact Hg
  isplitl [Ho]; · iexact Ho
  isplitl [H0]; · iexact H0
  iexact H1

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

end Cert.KernelRun

end
-- ==== Proof.LaunchArray.lean ====
/-
  The array the kernel's run leaves: every image's rows, and the run with the array read.
-/
module

public import proofs.«01_k».proof.Proof.Launch

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array -/

/-- Point `t`'s image. -/
def imageOf (t : Fin cfg0.N) : Fin 8 := t.cast N_0

theorem index_in : ∀ t : Fin cfg0.N, win0_0.index t 0 = t.val ∧ win0_0.index t 1 = 0 ∧ win0_0.index t 2 = 0 ∧ win0_0.index t 3 = 0 :=
  (by decide +kernel : ∀ t : Fin grid0.N, _)

theorem index_out : ∀ t : Fin cfg0.N, win0_1.index t 0 = t.val ∧ win0_1.index t 1 = 0 ∧ win0_1.index t 2 = 0 :=
  (by decide +kernel : ∀ t : Fin grid0.N, _)

theorem emb_in (t : Fin cfg0.N) (z : S1x93x157x128.Idx) : ((cfg0.win 0).blk t).view.emb z = ix4 (imageOf t) (z 1) (z 2) (z 3) := by
  obtain ⟨e0, e1, e2, e3⟩ := index_in t
  have h0 : (z 0).val = 0 := by have := (z 0).isLt; simp only [S1x93x157x128] at this; simpa using this
  funext a
  apply Fin.ext
  match a with
  | 0 => show win0_0.index t 0 * 1 + 1 * (z 0).val = t.val; omega
  | 1 => show win0_0.index t 1 * 93 + 1 * (z 1).val = (z 1).val; omega
  | 2 => show win0_0.index t 2 * 157 + 1 * (z 2).val = (z 2).val; omega
  | 3 => show win0_0.index t 3 * 128 + 1 * (z 3).val = (z 3).val; omega

theorem emb_out (t : Fin cfg0.N) (z : S1x200x6.Idx) : ((cfg0.win 1).blk t).view.emb z = ix3 (imageOf t) (z 1) (z 2) := by
  obtain ⟨e0, e1, e2⟩ := index_out t
  have h0 : (z 0).val = 0 := by have := (z 0).isLt; simp only [S1x200x6] at this; simpa using this
  funext a
  apply Fin.ext
  match a with
  | 0 => show win0_1.index t 0 * 1 + 1 * (z 0).val = t.val; omega
  | 1 => show win0_1.index t 1 * 200 + 1 * (z 1).val = (z 1).val; omega
  | 2 => show win0_1.index t 2 * 6 + 1 * (z 2).val = (z 2).val; omega

theorem iblk_eq (c : Dev nD) (t : Fin cfg0.N) : iblk m c 0 t = blockOf (operand m c) (imageOf t) :=
  funext fun z => congrArg (operand m c) (emb_in t z)

theorem flushed_eq (c : Dev nD) (t : Fin cfg0.N) :
    (dats m 0 c).flushed 1 t = ((cfg0.win 1).blk t).view.read (Elt F) (resultOf (operand m c)) := by
  show (cfg0.win 1).cut (grid0.coords t) ((dats m 0 c).after 1 t) = _
  rw [after_out, iblk_eq]
  funext z
  refine Eq.trans ?_ (congrArg (resultOf (operand m c)) (emb_out t z)).symm
  show outBlock (blockOf (operand m c) (imageOf t)) z = outBlock (blockOf (operand m c) (imageOf t)) (ix3 (0 : Fin 1) (z 1) (z 2))
  congr 1
  funext a
  match a with
  | 0 => exact Subsingleton.elim (α := Fin 1) _ _
  | 1 => rfl
  | 2 => rfl

theorem covered (i : S8x200x6.Idx) : ∃ t : Fin cfg0.N, (cfg0.win 1).flush t = true ∧ i ∈ ((cfg0.win 1).blk t).view.set := by
  refine ⟨(i 0).cast N_0.symm, flush0_1 _, ?_⟩
  have h := ((cfg0.win 1).blk ((i 0).cast N_0.symm)).view.emb_mem_set (ix3 (0 : Fin 1) (i 1) (i 2))
  rw [emb_out] at h
  have e : ix3 (imageOf ((i 0).cast N_0.symm)) (i 1) (i 2) = i := by
    funext a
    match a with
    | 0 => rfl
    | 1 => rfl
    | 2 => rfl
  exact e ▸ h

theorem final (c : Dev nD) : (dats m 0 c).arrAt 1 cfg0.N = resultOf (operand m c) :=
  (dats m 0 c).arrAt_eq_of_cover 1 (resultOf (operand m c)) (fun t _ => flushed_eq m c t) covered

/-- The run: the result array at its function of the operand, the argument unchanged, -/
theorem run : θ_run defs (onTc (τ := τ) (main (F := F))) ⟨m, fun _ => 0, ρ⟩ fun r => ∀ c : Dev nD,
      r.2.mem ((c.tc : Thread nD τ).loc main_v0) = resultOf (operand m c)
      ∧ r.2.mem ((c.tc : Thread nD τ).loc main_arg0) = m ((c.tc : Thread nD τ).loc main_arg0) :=
  (θ_run defs _ _).mono (fun _ h c => ⟨((h.1 c).1 1).trans (final m c),
    ((h.1 c).2 main_arg0 (Pipeline.mem_restRefs_of main_arg0 (by decide) (by decide))).trans (V_main_arg0 m c)⟩) (run_main m ρ)

/-- and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).2 main_arg0 (Pipeline.mem_restRefs_of main_arg0 (by decide) (by decide))).trans (V_main_arg0 m c), h.2⟩) (run_main m ρ)

end Cert.KernelRun

end
-- ==== Proof.Spec.lean ====
/-
  The detection rule, over the extended reals: greedy suppression of overlapping boxes, stated once over `n` candidate boxes.

  Each step takes the first candidate at the greatest current score, writes its class, score and corners if that score is positive (zeros
  otherwise), and sets the score of that candidate and of every candidate overlapping it too much to −1.
-/
module

public import Idealize.ShloMosaic.PureOps.Ideal.Laws

@[expose] public section

noncomputable section

namespace Cert.Spec

open Idealize.ShloMosaic

/-- The score of a candidate that is out: the word of `-1.0`. -/
def neg : EReal := Ideal.ofBits .f32 0xBF800000#32

/-- The least score of a detection (the word of `0.01`). -/
def confThr : EReal := Ideal.ofBits .f32 0x3C23D70A#32

/-- The greatest overlap that is kept (the word of `0.45`). -/
def iouThr : EReal := Ideal.ofBits .f32 0x3EE66666#32

/-- The floor of a union's area (the word of `1e-9`). -/
def unionFloor : EReal := Ideal.ofBits .f32 0x3089705F#32

theorem neg_eq : neg = -1 := by
  simp [neg, Ideal.ofBits, Ideal.ieee]
  rw [← EReal.coe_mul]
  norm_num

theorem neg_lt_zero : neg < 0 := by
  rw [neg_eq, ← EReal.coe_one, ← EReal.coe_neg, ← EReal.coe_zero, EReal.coe_lt_coe_iff]
  norm_num

theorem confThr_pos : 0 < confThr := by
  simp [confThr, Ideal.ofBits, Ideal.ieee]
  rw [← EReal.coe_mul, ← EReal.coe_zero, EReal.coe_lt_coe_iff]
  norm_num

/-! ## The first greatest entry -/

variable {n : ℕ}

/-- `i` is the first position of the greatest entry of `s`. -/
def IsFirstMax (s : Fin n → EReal) (i : Fin n) : Prop := (∀ j, s j ≤ s i) ∧ ∀ j < i, s j < s i

/-- There is at most one such position. -/
theorem IsFirstMax.unique {s : Fin n → EReal} {i j : Fin n} (hi : IsFirstMax s i) (hj : IsFirstMax s j) : i = j := by
  rcases lt_trichotomy i j with h | h | h
  · exact absurd (hj.2 i h) (not_lt.mpr (hi.1 j))
  · exact h
  · exact absurd (hi.2 j h) (not_lt.mpr (hj.1 i))

/-- There is such a position. -/
theorem exists_isFirstMax [NeZero n] (s : Fin n → EReal) : ∃ i, IsFirstMax s i := by
  classical
  obtain ⟨m, -, hm⟩ := Finset.exists_max_image (Finset.univ : Finset (Fin n)) s ⟨0, Finset.mem_univ _⟩
  have hne : (Finset.univ.filter fun i => s i = s m).Nonempty := ⟨m, by simp⟩
  refine ⟨(Finset.univ.filter fun i => s i = s m).min' hne, ?_⟩
  have hmem := Finset.min'_mem _ hne
  rw [Finset.mem_filter] at hmem
  refine ⟨fun j => (hm j (Finset.mem_univ _)).trans_eq hmem.2.symm, fun j hj => ?_⟩
  rw [hmem.2]
  refine lt_of_le_of_ne (hm j (Finset.mem_univ _)) fun he => ?_
  exact absurd (Finset.min'_le _ j (by simp [he])) (not_le.mpr hj)

/-- The first position of the greatest entry. -/
def firstMax [NeZero n] (s : Fin n → EReal) : Fin n := (exists_isFirstMax s).choose

theorem firstMax_spec [NeZero n] (s : Fin n → EReal) : IsFirstMax s (firstMax s) := (exists_isFirstMax s).choose_spec

theorem IsFirstMax.eq_firstMax [NeZero n] {s : Fin n → EReal} {i : Fin n} (h : IsFirstMax s i) : i = firstMax s :=
  h.unique (firstMax_spec s)

/-! ## The boxes and the rule -/

/-- The candidates: each one's confidence, class and corners. -/
structure Boxes (n : ℕ) where
  conf : Fin n → EReal
  cls : Fin n → EReal
  x1 : Fin n → EReal
  y1 : Fin n → EReal
  x2 : Fin n → EReal
  y2 : Fin n → EReal

/-- The area of the box with the given corners. -/
def areaOf (x1 y1 x2 y2 : EReal) : EReal := max (x2 - x1) 0 * max (y2 - y1) 0

/-- The overlap of two boxes, the first of area `a`, the second of area `b`: the area of the intersection over the floored area of the union. -/
def iouOf (x1 y1 x2 y2 a u1 v1 u2 v2 b : EReal) : EReal :=
  Ideal.div (max (min x2 u2 - max x1 u1) 0 * max (min y2 v2 - max y1 v1) 0)
    (max (a + b - max (min x2 u2 - max x1 u1) 0 * max (min y2 v2 - max y1 v1) 0) unionFloor)

theorem areaOf_nonneg (x1 y1 x2 y2 : EReal) : 0 ≤ areaOf x1 y1 x2 y2 :=
  mul_nonneg (le_max_right _ _) (le_max_right _ _)

namespace Boxes

variable (B : Boxes n)

/-- The area of candidate `j`. -/
def area (j : Fin n) : EReal := areaOf (B.x1 j) (B.y1 j) (B.x2 j) (B.y2 j)

/-- The overlap of candidate `j` with candidate `i`. -/
def iou (j i : Fin n) : EReal :=
  iouOf (B.x1 j) (B.y1 j) (B.x2 j) (B.y2 j) (B.area j) (B.x1 i) (B.y1 i) (B.x2 i) (B.y2 i) (B.area i)

open Classical in
/-- The scores at the start: the confidence of a candidate that is not background and confident enough, −1 for the rest. -/
def start (j : Fin n) : EReal := if B.cls j ≠ 0 ∧ confThr < B.conf j then B.conf j else neg

open Classical in
/-- The scores after candidate `i` is taken. -/
def suppress (i : Fin n) (s : Fin n → EReal) (j : Fin n) : EReal := if iouThr < B.iou j i ∨ j = i then neg else s j

/-- The scores after `k` steps. -/
def score [NeZero n] (k : ℕ) : Fin n → EReal := k.rec B.start fun _ s => B.suppress (firstMax s) s

/-- The candidate taken at step `k`. -/
def taken [NeZero n] (k : ℕ) : Fin n := firstMax (B.score k)

/-- The greatest score at step `k`. -/
def best [NeZero n] (k : ℕ) : EReal := B.score k (B.taken k)

/-- Field `c` of candidate `j`: class, confidence, corners. -/
def field (c : Fin 6) (j : Fin n) : EReal :=
  match c with
  | 0 => B.cls j
  | 1 => B.conf j
  | 2 => B.x1 j
  | 3 => B.y1 j
  | 4 => B.x2 j
  | 5 => B.y2 j

open Classical in
/-- What step `k` writes in column `c`. -/
def row [NeZero n] (k : ℕ) (c : Fin 6) : EReal := if 0 < B.best k then B.field c (B.taken k) else 0

theorem neg_le_start (j : Fin n) : neg ≤ B.start j := by
  unfold start; split
  · next h => exact (neg_lt_zero.trans (confThr_pos.trans h.2)).le
  · exact le_rfl

theorem start_eq (j : Fin n) : B.start j = neg ∨ B.start j = B.conf j := by
  unfold start; split <;> simp

theorem suppress_eq (i : Fin n) (s : Fin n → EReal) (j : Fin n) : B.suppress i s j = neg ∨ B.suppress i s j = s j := by
  unfold suppress; split <;> simp

variable [NeZero n]

theorem score_zero : B.score 0 = B.start := rfl

theorem score_succ (k : ℕ) : B.score (k + 1) = B.suppress (firstMax (B.score k)) (B.score k) := rfl

/-- One step leaves a score or makes it −1. -/
theorem score_succ_eq (k : ℕ) (j : Fin n) : B.score (k + 1) j = neg ∨ B.score (k + 1) j = B.score k j :=
  B.suppress_eq _ _ j

theorem neg_le_score (k : ℕ) (j : Fin n) : neg ≤ B.score k j := by
  induction k with
  | zero => exact B.neg_le_start j
  | succ k ih =>
    rcases B.score_succ_eq k j with h | h
    · exact h ▸ le_rfl
    · exact h ▸ ih

/-- Every score is −1 or the candidate's confidence. -/
theorem score_eq (k : ℕ) (j : Fin n) : B.score k j = neg ∨ B.score k j = B.conf j := by
  induction k with
  | zero => exact B.start_eq j
  | succ k ih =>
    rcases B.score_succ_eq k j with h | h
    · exact .inl h
    · exact h ▸ ih

theorem score_succ_le (k : ℕ) (j : Fin n) : B.score (k + 1) j ≤ B.score k j := by
  rcases B.score_succ_eq k j with h | h
  · exact h ▸ B.neg_le_score k j
  · exact h ▸ le_rfl

theorem best_succ_le (k : ℕ) : B.best (k + 1) ≤ B.best k :=
  (B.score_succ_le k _).trans ((firstMax_spec (B.score k)).1 _)

theorem best_antitone {k l : ℕ} (h : k ≤ l) : B.best l ≤ B.best k :=
  antitone_nat_of_succ_le (f := B.best) B.best_succ_le h

/-- A positive greatest score is the taken candidate's confidence. -/
theorem best_eq_conf (k : ℕ) (h : 0 < B.best k) : B.best k = B.conf (B.taken k) := by
  rcases B.score_eq k (B.taken k) with h' | h'
  · exact absurd ((show B.best k = neg from h').trans_lt neg_lt_zero) (not_lt.mpr h.le)
  · exact h'

/-- The score column descends. -/
theorem row_one_antitone {k l : ℕ} (h : k ≤ l) : B.row l 1 ≤ B.row k 1 := by
  unfold row
  have hm := B.best_antitone h
  by_cases hl : 0 < B.best l
  · rw [if_pos hl, if_pos (hl.trans_le hm)]
    show B.conf _ ≤ B.conf _
    rw [← B.best_eq_conf l hl, ← B.best_eq_conf k (hl.trans_le hm)]
    exact hm
  · rw [if_neg hl]
    by_cases hk : 0 < B.best k
    · rw [if_pos hk]
      show 0 ≤ B.conf _
      rw [← B.best_eq_conf k hk]
      exact hk.le
    · rw [if_neg hk]

end Boxes

end Cert.Spec
-- ==== Proof.Trip.lean ====
/-
  One trip of the kernel's loop, read over the extended reals.

  The trip is stated over the values it reads: the current scores, and the class, corner and area of each of the 157 × 128 positions. If `x` is
  the first position (in row-major order) of the greatest score, the trip's maximum is the score at `x`, its hit is `x` alone, each value it picks
  is the value at `x` (never under the mask −3.4e38), and the scores it leaves are those of the suppression rule.
-/
module

public import proofs.«01_k».proof.Proof.Loop
public import proofs.«01_k».proof.Proof.Spec
public import Idealize.ShloMosaic.Lib.ValueLayout

@[expose] public section

set_option maxRecDepth 8192

noncomputable section

namespace Cert.Trip

open Idealize.ShloMosaic Cert.KernelIdeal Cert.KernelIdeal.Gen Cert.Spec
open Cert.KernelRun (nextOf rowOf lanes)

/-- An array over the positions of one batch entry. -/
abbrev Grid : Type := FVec Ideal S157x128 .f32

/-- What the loop reads at each position besides the score. -/
abbrev Items : Type := Cert.KernelRun.Items Ideal

/-- The word under which no picked value falls. -/
def mask : EReal := Ideal.ofBits .f32 0xFF7FC99E#32

/-- The positions hit by a trip that starts with the scores `s`. -/
def hitOf (s : Grid) : IVec S157x128 1 := k0_pay3 k0_pay62 s

/-! ## The maximum over all positions -/

theorem ofBits_negInf : (FloatOps.ofBits (F := Ideal) .f32 0xFF800000#32 : EReal) = ⊥ := by
  show Ideal.ofBits .f32 0xFF800000#32 = ⊥
  simp [Ideal.ofBits, Ideal.ieee]

/-- A reshape takes the values of its operand. -/
theorem iSup_shapeCast {s t : Shape} (h : s.ShapeCasts t) (v : s.Idx → EReal) : ⨆ j, shapeCast t v h j = ⨆ i, v i :=
  (Shape.reshapeEquiv h).iSup_comp (g := v)

/-- A maximum over all the positions, from −∞, is the supremum. -/
theorem maxAll {s t : Shape} {axes : List (Fin s.rank)} (h : s.Reduces axes t) (ht : ∀ b, t.size b = 1) (x : FVec Ideal s .f32)
    (hφ : FKind.Formats .f32) (hacc : (0xFF800000#32 : BitVec 32) = FKind.maximumf.neutral .f32 hφ) (j : t.Idx) :
    multiReduction .maximumf axes t x 0xFF800000#32 h hφ hacc j = ⨆ i, x i := by
  rw [multiReduction_maximumf_eq_fold, Finset.filter_true_of_mem, ofBits_negInf, ← Finset.sup_univ_eq_iSup]
  · rfl
  · intro i _
    funext b
    apply Fin.ext
    have h1 := (h.drop i b).isLt
    have h2 := (j b).isLt
    have h3 := ht b
    omega

/-- The one axis of the shape of one element has size one. -/
theorem S1_size (b : Fin S1.rank) : S1.size b = 1 := by
  have : b = (0 : Fin 1) := Subsingleton.elim _ _
  subst this; rfl

/-- The one element of a one-element array, extracted through its reshape. -/
theorem extract_one {α : Type} (r : S1.Idx → α) : extractAt ![0, 0, 0] (shapeCast S1x1x1 r shapeCasts_S1_S1x1x1) inpos_S1x1x1_p0_0_0 = r fun b => ⟨0, by rw [S1_size b]; norm_num⟩ := by
  unfold extractAt shapeCast
  congr 1
  funext b
  apply Fin.ext
  have h1 := (Shape.reshapeEquiv shapeCasts_S1_S1x1x1 (fun a => ⟨(![0, 0, 0] : Fin 3 → ℕ) a, inpos_S1x1x1_p0_0_0 a⟩) b).isLt
  have h3 := S1_size b
  show (Shape.reshapeEquiv shapeCasts_S1_S1x1x1 _ b).val = 0
  omega

/-- The kernel's maximum over the positions is the supremum. -/
theorem pay2_eq (s : Grid) : k0_pay2 (F := Ideal) s = ⨆ i, s i := by
  rw [← iSup_shapeCast shapeCasts_S157x128_S1x157x128 s]
  unfold k0_pay2
  dsimp only
  rw [extract_one]
  exact maxAll reduces_S1x157x128_S1 S1_size _ _ _ _

open Classical in
/-- The value picked from `v` at the hit positions. -/
def pickOf (hit : IVec S157x128 1) (v : Grid) : EReal := ⨆ i, if hit i = 1 then v i else mask

/-- A pick is the maximum of what it picks from, the mask off the hit. -/
theorem pay2_select (hit : IVec S157x128 1) (v : Grid) :
    k0_pay2 (F := Ideal) (select hit v (broadcast S157x128 (Scalar.ofBits .f32 0xFF7FC99E#32))) = pickOf hit v := by
  rw [pay2_eq]; rfl

theorem pay4_eq (v s : Grid) : k0_pay4 (F := Ideal) v k0_pay62 s = pickOf (hitOf s) v := pay2_select (hitOf s) v
theorem pay5_eq (v s : Grid) : k0_pay5 (F := Ideal) v k0_pay62 s = pickOf (hitOf s) v := pay2_select (hitOf s) v
theorem pay6_eq (v s : Grid) : k0_pay6 (F := Ideal) v k0_pay62 s = pickOf (hitOf s) v := pay2_select (hitOf s) v
theorem pay7_eq (v s : Grid) : k0_pay7 (F := Ideal) v k0_pay62 s = pickOf (hitOf s) v := pay2_select (hitOf s) v
theorem pay8_eq (v s : Grid) : k0_pay8 (F := Ideal) v k0_pay62 s = pickOf (hitOf s) v := pay2_select (hitOf s) v

/-- A value picked at the one hit position `x`, if it is not under the mask. -/
theorem pickOf_eq {hit : IVec S157x128 1} {x : S157x128.Idx} (hx : ∀ y, hit y = 1 ↔ y = x) {v : Grid} (hv : mask ≤ v x) : pickOf hit v = v x := by
  refine le_antisymm (iSup_le fun y => ?_) (le_iSup_of_le x ?_)
  · split
    · next h => rw [(hx y).mp h]
    · exact hv
  · rw [if_pos ((hx x).mpr rfl)]

/-! ## The hit -/

/-- The number of a position in row-major order. -/
def flat (x : S157x128.Idx) : ℕ := 128 * (x 0).val + (x 1).val

theorem flat_lt (x : S157x128.Idx) : flat x < 20096 := by
  have h0 : (x 0).val < 157 := (x 0).isLt
  have h1 : (x 1).val < 128 := (x 1).isLt
  unfold flat; omega

theorem flat_injective : Function.Injective flat := by
  intro x y h
  have h0 : (x 1).val < 128 := (x 1).isLt
  have h1 : (y 1).val < 128 := (y 1).isLt
  unfold flat at h
  funext a
  apply Fin.ext
  match a with
  | 0 => show (x 0).val = (y 0).val; omega
  | 1 => show (x 1).val = (y 1).val; omega

theorem pay62_eq (x : S157x128.Idx) : k0_pay62 x = BitVec.ofNat 32 (flat x) := by
  show BitVec.ofNat 32 (0 * 157 + (x 0).val) * 128#32 + BitVec.ofNat 32 (0 * 128 + (x 1).val) = _
  have h0 : (x 0).val < 157 := (x 0).isLt
  have h1 : (x 1).val < 128 := (x 1).isLt
  unfold flat
  apply BitVec.eq_of_toNat_eq
  simp
  omega

theorem toInt_ofNat_small {k : ℕ} (h : k < 2 ^ 31) : (BitVec.ofNat 32 k).toInt = k := by
  rw [BitVec.toInt_eq_toNat_of_lt] <;> simp <;> omega

/-- A signed minimum is under both its operands and is one of them. -/
theorem minsi_spec (a b : BitVec 32) : (IntOp.minsi a b).toInt = min a.toInt b.toInt := by
  unfold IntOp.minsi
  by_cases h : a.slt b
  · rw [if_pos h, min_eq_left]; rw [BitVec.slt_iff_toInt_lt] at h; omega
  · rw [if_neg h, min_eq_right]; rw [BitVec.slt_iff_toInt_lt] at h; omega

/-- A signed minimum over all the positions, if it is the value at `x` and no less anywhere. -/
theorem minAll {s t : Shape} {axes : List (Fin s.rank)} (h : s.Reduces axes t) (ht : ∀ b, t.size b = 1) (v : IVec s 32)
    (hacc : (2147483647#32 : BitVec 32) = IKind.minsi.neutral) (j : t.Idx) (x : s.Idx) (hx : ∀ y, (v x).toInt ≤ (v y).toInt) :
    multiReductionI .minsi axes t v 2147483647#32 h hacc j = v x := by
  rw [multiReductionI_eq_fold, Finset.filter_true_of_mem]
  · apply BitVec.eq_of_toInt_eq
    have key : ∀ S : Finset s.Idx, (S.fold IKind.minsi.op 2147483647#32 v).toInt = S.fold min (2147483647 : ℤ) fun i => (v i).toInt := by
      classical
      intro S
      induction S using Finset.induction_on with
      | empty => rfl
      | insert a S ha ih => rw [Finset.fold_insert ha, Finset.fold_insert ha, ← ih]; exact minsi_spec _ _
    rw [key]
    apply le_antisymm
    · exact (Finset.fold_min_le _).mpr (.inr ⟨x, Finset.mem_univ _, le_rfl⟩)
    · refine (Finset.le_fold_min _).mpr ⟨?_, fun j _ => hx _⟩
      have := (v x).toInt_lt
      norm_num at this ⊢
      omega
  · intro i _
    funext b
    apply Fin.ext
    have h1 := (h.drop i b).isLt
    have h2 := (j b).isLt
    have h3 := ht b
    omega

/-- `x` is the first position of the greatest score. -/
def IsTop (s : Grid) (x : S157x128.Idx) : Prop := (∀ y, s y ≤ s x) ∧ ∀ y, s y = s x → flat x ≤ flat y

theorem pay2_of_isTop {s : Grid} {x : S157x128.Idx} (h : IsTop s x) : k0_pay2 (F := Ideal) s = s x := by
  rw [pay2_eq]; exact le_antisymm (iSup_le h.1) (le_iSup s x)

/-- The comparisons, as propositions. -/
theorem cmp_oeq (a b : EReal) : Ideal.cmp .oeq a b = 1#1 ↔ a = b := by
  unfold Ideal.cmp; by_cases h : a = b <;> simp [h]

theorem cmp_ogt (a b : EReal) : Ideal.cmp .ogt a b = 1#1 ↔ b < a := by
  unfold Ideal.cmp; by_cases h : b < a <;> simp [h]

theorem cmp_one (a b : EReal) : Ideal.cmp .one a b = 1#1 ↔ a ≠ b := by
  unfold Ideal.cmp; by_cases h : a = b <;> simp [h]

theorem cmpi_eq {w : ℕ} (a b : BitVec w) : IntOp.cmpi .eq a b = 1#1 ↔ a = b := by
  unfold IntOp.cmpi; by_cases h : a = b
  · simp [h]
  · have : (a == b) = false := beq_false_of_ne h
    simp [this, h]

/-- Two words of small numbers are equal when the numbers are. -/
theorem ofNat_inj_small {k l : ℕ} (hk : k < 2 ^ 32) (hl : l < 2 ^ 32) : BitVec.ofNat 32 k = BitVec.ofNat 32 l ↔ k = l := by
  refine ⟨fun h => ?_, fun h => h ▸ rfl⟩
  have h4 := congrArg BitVec.toNat h
  simp only [BitVec.toNat_ofNat] at h4
  omega

theorem and_eq_one (a b : BitVec 1) : a &&& b = 1#1 ↔ a = 1#1 ∧ b = 1#1 := by
  revert a b; decide

theorem or_eq_one (a b : BitVec 1) : a ||| b = 1#1 ↔ a = 1#1 ∨ b = 1#1 := by
  revert a b; decide

/-- The hit is the first position of the greatest score, alone. -/
theorem hitOf_iff {s : Grid} {x : S157x128.Idx} (h : IsTop s x) (y : S157x128.Idx) : hitOf s y = 1 ↔ y = x := by
  classical
  have hat : ∀ z, cmpf (F := Ideal) .oeq s (broadcast S157x128 (k0_pay2 s)) z = 1 ↔ s z = s x := fun z => by
    rw [pay2_of_isTop h]
    exact cmp_oeq (s z) (s x)
  generalize hv : select (cmpf (F := Ideal) .oeq s (broadcast S157x128 (k0_pay2 s))) k0_pay62 (broadcast S157x128 20096#32) = v
  have hw : ∀ z, v z = if s z = s x then BitVec.ofNat 32 (flat z) else 20096#32 := fun z => by
    rw [← hv, select, Scalar.select, ← pay62_eq]
    exact if_congr (hat z) rfl rfl
  have hx : v x = BitVec.ofNat 32 (flat x) := by rw [hw, if_pos rfl]
  have hle : ∀ z, (v x).toInt ≤ (v z).toInt := fun z => by
    rw [hx, hw, toInt_ofNat_small ((flat_lt x).trans (by norm_num))]
    split
    · next hz => rw [toInt_ofNat_small ((flat_lt z).trans (by norm_num))]; exact_mod_cast h.2 z hz
    · have := flat_lt x
      rw [toInt_ofNat_small (by norm_num)]
      omega
  have hmin : extractAt ![0, 0, 0] (shapeCast S1x1x1 (multiReductionI .minsi [1, 2] S1 (shapeCast S1x157x128 v shapeCasts_S157x128_S1x157x128)
      2147483647#32 reduces_S1x157x128_S1 rfl) shapeCasts_S1_S1x1x1) inpos_S1x1x1_p0_0_0 = BitVec.ofNat 32 (flat x) := by
    obtain ⟨j, hj⟩ := (Shape.reshapeEquiv shapeCasts_S157x128_S1x157x128).surjective x
    have hc : ∀ k, shapeCast S1x157x128 v shapeCasts_S157x128_S1x157x128 k = v (Shape.reshapeEquiv shapeCasts_S157x128_S1x157x128 k) := fun _ => rfl
    rw [extract_one, ← hx, ← hj, ← hc]
    refine minAll reduces_S1x157x128_S1 S1_size _ _ _ j fun y => ?_
    rw [hc, hc, hj]; exact hle _
  unfold hitOf k0_pay3
  dsimp only
  rw [hv, hmin]
  refine (and_eq_one (cmpf (F := Ideal) .oeq s (broadcast S157x128 (k0_pay2 s)) y) _).trans ((and_congr (hat y) (cmpi_eq _ _)).trans ?_)
  rw [show ∀ w : BitVec 32, broadcast S157x128 w y = w from fun _ => rfl, pay62_eq,
    ofNat_inj_small ((flat_lt y).trans (by norm_num)) ((flat_lt x).trans (by norm_num))]
  exact ⟨fun h2 => flat_injective h2.2, fun h2 => h2 ▸ ⟨rfl, rfl⟩⟩

/-! ## What the trip leaves and writes -/

/-- Every picked value is the one at the top position, if the values there are not under the mask. -/
structure NotMasked (I : Items) (x : S157x128.Idx) : Prop where
  cls : mask ≤ I.cls x
  x1 : mask ≤ I.x1 x
  y1 : mask ≤ I.y1 x
  x2 : mask ≤ I.x2 x
  y2 : mask ≤ I.y2 x
  area : mask ≤ I.area x

open Classical in
/-- The scores a trip leaves: −1 at the top position and where the overlap with it is too great, the score it had elsewhere. -/
theorem nextOf_apply {I : Items} {s : Grid} {x : S157x128.Idx} (h : IsTop s x) (hm : NotMasked I x) (y : S157x128.Idx) :
    nextOf I s y = if iouThr < iouOf (I.x1 y) (I.y1 y) (I.x2 y) (I.y2 y) (I.area y) (I.x1 x) (I.y1 x) (I.x2 x) (I.y2 x) (I.area x) ∨ y = x
      then neg else s y := by
  have hh := hitOf_iff h
  unfold nextOf
  rw [pay4_eq, pay5_eq, pay6_eq, pay7_eq, pay8_eq, pickOf_eq hh hm.x1, pickOf_eq hh hm.y1, pickOf_eq hh hm.x2, pickOf_eq hh hm.y2,
    pickOf_eq hh hm.area]
  refine if_congr ((or_eq_one _ _).trans (or_congr ((cmp_ogt _ _).trans ?_) (hh y))) rfl rfl
  unfold iouOf
  rw [← Ideal.ofBits_zero_f32]
  exact Iff.rfl

open Classical in
/-- The row a trip writes, in its first six lanes: the class, score and corners at the top position if the score there is positive. -/
theorem rowOf_apply {I : Items} {s : Grid} {x : S157x128.Idx} (h : IsTop s x) (hm : NotMasked I x) (j : S1x128.Idx) :
    rowOf I s j = if 0 < s x then (if (j 1).val = 0 then I.cls x else if (j 1).val = 1 then s x else if (j 1).val = 2 then I.x1 x
      else if (j 1).val = 3 then I.y1 x else if (j 1).val = 4 then I.x2 x else I.y2 x) else 0 := by
  have hh := hitOf_iff h
  have hlane : ∀ k : ℕ, k < 128 → (cmpi .eq (iota .tc S1x128 32 [1] iota_S1x128_d1_w32) (broadcast S1x128 (BitVec.ofNat 32 k)) j = 1 ↔ (j 1).val = k) := by
    intro k hk
    have h1 : (j 1).val < 128 := (j 1).isLt
    refine (cmpi_eq (BitVec.ofNat 32 (0 * 128 + (j 1).val)) (BitVec.ofNat 32 k)).trans ?_
    rw [ofNat_inj_small (by omega) (by omega)]
    omega
  have hpos : ∀ a b : EReal, Scalar.select (Scalar.cmpf (F := Ideal) (φ := .f32) .ogt (s x) (Scalar.ofBits .f32 0x00000000#32)) a b = if 0 < s x then a else b :=
    fun a b => if_congr ((cmp_ogt _ _).trans (by rw [← Ideal.ofBits_zero_f32]; exact Iff.rfl)) rfl rfl
  have h11 : k0_pay11 (F := Ideal) I.cls (k0_pay2 s) (k0_pay3 k0_pay62 s) (Scalar.ofBits .f32 0xFF7FC99E#32)
      = Scalar.select (Scalar.cmpf (F := Ideal) (φ := .f32) .ogt (k0_pay2 s) (Scalar.ofBits .f32 0x00000000#32)) (pickOf (hitOf s) I.cls)
        (Scalar.ofBits (F := Ideal) .f32 0x00000000#32) := by
    rw [← pay2_select]; rfl
  have hz : (Scalar.ofBits (F := Ideal) .f32 0x00000000#32 : EReal) = 0 := Ideal.ofBits_zero_f32
  unfold rowOf lanes
  rw [h11, pay4_eq, pay5_eq, pay6_eq, pay7_eq, pickOf_eq hh hm.x1, pickOf_eq hh hm.y1, pickOf_eq hh hm.x2, pickOf_eq hh hm.y2,
    pickOf_eq hh hm.cls, pay2_of_isTop h]
  unfold k0_pay64 k0_pay10 k0_pay12 k0_pay13 k0_pay14 k0_pay15 k0_pay16 k0_pay17
  simp only [shapeCast_self]
  simp only [select]
  simp only [hpos]
  simp only [hz]
  have hsel : ∀ (k : ℕ), k < 128 → ∀ a b : EReal, Scalar.select (cmpi .eq (iota .tc S1x128 32 [1] iota_S1x128_d1_w32) (broadcast S1x128 (BitVec.ofNat 32 k)) j) a b
      = if (j 1).val = k then a else b := fun k hk a b => if_congr (hlane k hk) rfl rfl
  rw [hsel 0 (by norm_num), hsel 1 (by norm_num), hsel 2 (by norm_num), hsel 3 (by norm_num), hsel 4 (by norm_num)]
  simp only [broadcast]
  split_ifs <;> rfl

end Cert.Trip
-- ==== Proof.Decode.lean ====
/-
  The candidates that a batch entry's 93 columns state: the first greatest of 81 class scores, and the corners of a box given by offsets from
  an anchor.
-/
module

public import proofs.«01_k».proof.Proof.Spec
public import Idealize.ShloMosaic.Lib.ValueIdx

@[expose] public section

noncomputable section

namespace Cert.Spec

open Idealize.ShloMosaic

/-- The word of `0.5`, and the word of the image's side `512.0`. -/
def half : EReal := Ideal.ofBits .f32 0x3F000000#32
@[inherit_doc half] def side : EReal := Ideal.ofBits .f32 0x44000000#32

/-- The class of a candidate's columns: the first greatest of the first 81. -/
def classOf (v : ℕ → EReal) : Fin 81 := firstMax fun k : Fin 81 => v k.val

/-- The center of a side: anchor center `c`, offset `o` in units of the variance `s` and the anchor's extent `w`. -/
def centerOf (o s w c : EReal) : EReal := o * s * w + c

/-- The extent of a side. -/
def extentOf (o s w : EReal) : EReal := Ideal.exp (o * s) * w

/-- The low and the high end of a side, in pixels. -/
def lowOf (c w : EReal) : EReal := (c - half * w) * side
@[inherit_doc lowOf] def highOf (c w : EReal) : EReal := (c + half * w) * side

/-- The candidates of `n` rows of columns. -/
def boxesOf {n : ℕ} (v : Fin n → ℕ → EReal) : Boxes n where
  cls j := ((classOf (v j)).val : EReal)
  conf j := v j (classOf (v j)).val
  x1 j := lowOf (centerOf (v j 81) (v j 89) (v j 87) (v j 85)) (extentOf (v j 83) (v j 91) (v j 87))
  y1 j := lowOf (centerOf (v j 82) (v j 90) (v j 88) (v j 86)) (extentOf (v j 84) (v j 92) (v j 88))
  x2 j := highOf (centerOf (v j 81) (v j 89) (v j 87) (v j 85)) (extentOf (v j 83) (v j 91) (v j 87))
  y2 j := highOf (centerOf (v j 82) (v j 90) (v j 88) (v j 86)) (extentOf (v j 84) (v j 92) (v j 88))

/-- The candidates of image `b` of the input. -/
def boxesAt (x : (⟨3, ![8, 20000, 93]⟩ : Shape).Idx → EReal) (b : Fin 8) : Boxes 20000 :=
  boxesOf fun j k => x (ValueIdx.ix3 b j (Fin.ofNat 93 k))

/-- The corners of every candidate are at least `m`. -/
def Above {n : ℕ} (m : EReal) (B : Boxes n) : Prop := ∀ j, m ≤ B.x1 j ∧ m ≤ B.y1 j ∧ m ≤ B.x2 j ∧ m ≤ B.y2 j

end Cert.Spec
-- ==== Proof.KernelItems.lean ====
/-
  What the kernel's body computes before its loop, at one position of the grid: the class, the confidence, the corners and the area that the 93
  slabs' values there state, and the starting score.
-/
module

public import proofs.«01_k».proof.Proof.Body
public import proofs.«01_k».proof.Proof.Trip
public import proofs.«01_k».proof.Proof.Decode
public import Idealize.ShloMosaic.Lib.ValueLayout
public import Idealize.ShloMosaic.Lib.TotalOrder

@[expose] public section

set_option maxRecDepth 16384

noncomputable section

namespace Cert.KernelItems

open Idealize.ShloMosaic Idealize.ShloMosaic.ValueIdx Cert.KernelIdeal Cert.KernelIdeal.Gen Cert.Spec Cert.Trip
open Cert.KernelRun (grid conf conf68 cls clsAt itemsOf startOf)

/-- The slabs' values at a position. -/
def at_ (s : ℕ → Vec Ideal S1x1x157x128 .f32) (x : S157x128.Idx) (k : ℕ) : EReal := s k (ix4 (0 : Fin 1) (0 : Fin 1) (x 0) (x 1))

theorem grid_apply (s : ℕ → Vec Ideal S1x1x157x128 .f32) (k : ℕ) (x : S157x128.Idx) : grid s k x = at_ s x k :=
  shapeCast_apply (s k) shapeCasts_S1x1x157x128_S157x128 _ _ (by
    rw [Shape.rowMajor_val_four, Shape.rowMajor_val_two]
    show ((0 * 1 + 0) * 157 + (x 0).val) * 128 + (x 1).val = (x 0).val * 128 + (x 1).val
    omega)

/-! ## The greatest of the class scores -/

/-- The greatest of the first `k + 1` values, taken one after the other. -/
def runMax (v : ℕ → EReal) : ℕ → EReal
  | 0 => v 0
  | k + 1 => max (runMax v k) (v (k + 1))

theorem le_runMax (v : ℕ → EReal) (n : ℕ) : ∀ k ≤ n, v k ≤ runMax v n := by
  induction n with
  | zero => intro k hk; obtain rfl : k = 0 := by omega
            exact le_rfl
  | succ n ih =>
    intro k hk
    rcases Nat.lt_or_ge n k with h | h
    · obtain rfl : k = n + 1 := by omega
      exact le_max_right _ _
    · exact (ih k h).trans (le_max_left _ _)

theorem runMax_mem (v : ℕ → EReal) (n : ℕ) : ∃ k ≤ n, runMax v n = v k := by
  induction n with
  | zero => exact ⟨0, le_rfl, rfl⟩
  | succ n ih =>
    obtain ⟨k, hk, e⟩ := ih
    rcases le_total (runMax v n) (v (n + 1)) with h | h
    · exact ⟨n + 1, le_rfl, max_eq_right h⟩
    · exact ⟨k, by omega, (max_eq_left h).trans e⟩

theorem runMax_eq (v : ℕ → EReal) : runMax v 80 = v (classOf v).val := by
  have hm := firstMax_spec fun k : Fin 81 => v k.val
  obtain ⟨k, hk, e⟩ := runMax_mem v 80
  apply le_antisymm
  · rw [e]; exact hm.1 ⟨k, by omega⟩
  · exact le_runMax v 80 _ (by have := (classOf v).isLt; omega)

theorem conf_eq_runMax (s : ℕ → Vec Ideal S1x1x157x128 .f32) (x : S157x128.Idx) : conf s x = runMax (fun k => grid s k x) 80 := rfl

theorem conf_apply (s : ℕ → Vec Ideal S1x1x157x128 .f32) (x : S157x128.Idx) : conf s x = at_ s x (classOf (at_ s x)).val := by
  rw [conf_eq_runMax, funext fun k => grid_apply s k x]
  exact runMax_eq _

/-! ## The class -/

/-- The word of the number `k`. -/
def idBits (k : ℕ) : BitVec 32 := if k = 0 then 0#32 else BitVec.ofNat 32 ((127 + k.log2) * 2 ^ 23 + (k - 2 ^ k.log2) * 2 ^ (23 - k.log2))

/-- The class found by going over the classes from the last to the first, each one whose value is equal to `c` replacing the one before. -/
def scan (v : ℕ → EReal) (c : EReal) : ℕ → EReal
  | 0 => Ideal.ofBits .f32 0x00000000#32
  | k + 1 => Scalar.select (Ideal.cmp .oeq (v (80 - k)) c) (Ideal.ofBits .f32 (idBits (80 - k))) (scan v c k)

theorem cls_eq_scan (s : ℕ → Vec Ideal S1x1x157x128 .f32) (x : S157x128.Idx) : cls s x = scan (fun k => grid s k x) (conf s x) 81 := rfl

/-- The fields of the words: the sign is off, the exponent is finite, the significand is the number in units of the least one. -/
theorem idBits_fields : ∀ k : Fin 81, TotalOrder.sign 8 23 (idBits k.val) = false ∧ TotalOrder.expo 8 23 (idBits k.val) ≠ 2 ^ 8 - 1
    ∧ TotalOrder.sig 23 (TotalOrder.expo 8 23 (idBits k.val)) (TotalOrder.frac 23 (idBits k.val)) = k.val * 2 ^ 149 := by
  decide +kernel

theorem ofBits_idBits (k : ℕ) (hk : k < 81) : Ideal.ofBits .f32 (idBits k) = (k : EReal) := by
  obtain ⟨h1, h2, h3⟩ := idBits_fields ⟨k, hk⟩
  show Ideal.ieee 8 23 (idBits k) = _
  rw [TotalOrder.ieee_eq_signed_absVal fun h => h2 h.1, h1]
  unfold TotalOrder.absVal
  rw [if_neg h2, h3]
  have hu : ((k * 2 ^ 149 : ℕ) : ℝ) * TotalOrder.ulp 8 23 = (k : ℝ) := by
    have he : TotalOrder.ulp 8 23 = ((2 : ℝ) ^ 149)⁻¹ := by unfold TotalOrder.ulp; norm_num
    rw [he, Nat.cast_mul, Nat.cast_pow, Nat.cast_ofNat]
    exact mul_inv_cancel_right₀ (pow_ne_zero _ two_ne_zero) _
  simp only [Bool.false_eq_true, if_false, hu]
  rfl

/-- The scan ends at the first of the values equal to the one looked for. -/
theorem scan_eq (v : ℕ → EReal) (p : ℕ) (hp : p < 81) (hlt : ∀ k < p, v k ≠ v p) : ∀ n, 80 - p < n → n ≤ 81 → scan v (v p) n = (p : EReal)
  | 0, h, _ => absurd h (Nat.not_lt_zero _)
  | n + 1, h, hn => by
    show Scalar.select (Ideal.cmp .oeq (v (80 - n)) (v p)) (Ideal.ofBits .f32 (idBits (80 - n))) (scan v (v p) n) = _
    by_cases he : 80 - n = p
    · rw [he, (cmp_oeq (v p) (v p)).mpr rfl]
      exact ofBits_idBits p hp
    · have hne : Ideal.cmp .oeq (v (80 - n)) (v p) ≠ 1#1 := fun hc => hlt _ (by omega) ((cmp_oeq _ _).mp hc)
      exact (if_neg hne).trans (scan_eq v p hp hlt n (by omega) (by omega))

theorem cls_apply (s : ℕ → Vec Ideal S1x1x157x128 .f32) (x : S157x128.Idx) : cls s x = ((classOf (at_ s x)).val : EReal) := by
  rw [cls_eq_scan, conf_apply, funext fun k => grid_apply s k x]
  have hm := firstMax_spec fun k : Fin 81 => at_ s x k.val
  exact scan_eq (at_ s x) _ (classOf (at_ s x)).isLt
    (fun k hk => (hm.2 ⟨k, hk.trans (classOf (at_ s x)).isLt⟩ hk).ne) 81 (by omega) le_rfl

/-! ## The corners, the area, the starting score -/

/-- The one candidate whose columns are `v`. -/
def oneOf (v : ℕ → EReal) : Boxes 1 := boxesOf fun _ => v

theorem x1_apply (s : ℕ → Vec Ideal S1x1x157x128 .f32) (x : S157x128.Idx) : (itemsOf s).x1 x = (oneOf (at_ s x)).x1 0 := by
  show lowOf (centerOf (grid s 81 x) (grid s 89 x) (grid s 87 x) (grid s 85 x)) (extentOf (grid s 83 x) (grid s 91 x) (grid s 87 x)) = _
  simp only [grid_apply]; rfl

theorem y1_apply (s : ℕ → Vec Ideal S1x1x157x128 .f32) (x : S157x128.Idx) : (itemsOf s).y1 x = (oneOf (at_ s x)).y1 0 := by
  show lowOf (centerOf (grid s 82 x) (grid s 90 x) (grid s 88 x) (grid s 86 x)) (extentOf (grid s 84 x) (grid s 92 x) (grid s 88 x)) = _
  simp only [grid_apply]; rfl

theorem x2_apply (s : ℕ → Vec Ideal S1x1x157x128 .f32) (x : S157x128.Idx) : (itemsOf s).x2 x = (oneOf (at_ s x)).x2 0 := by
  show highOf (centerOf (grid s 81 x) (grid s 89 x) (grid s 87 x) (grid s 85 x)) (extentOf (grid s 83 x) (grid s 91 x) (grid s 87 x)) = _
  simp only [grid_apply]; rfl

theorem y2_apply (s : ℕ → Vec Ideal S1x1x157x128 .f32) (x : S157x128.Idx) : (itemsOf s).y2 x = (oneOf (at_ s x)).y2 0 := by
  show highOf (centerOf (grid s 82 x) (grid s 90 x) (grid s 88 x) (grid s 86 x)) (extentOf (grid s 84 x) (grid s 92 x) (grid s 88 x)) = _
  simp only [grid_apply]; rfl

theorem area_apply (s : ℕ → Vec Ideal S1x1x157x128 .f32) (x : S157x128.Idx) :
    (itemsOf s).area x = areaOf ((itemsOf s).x1 x) ((itemsOf s).y1 x) ((itemsOf s).x2 x) ((itemsOf s).y2 x) := by
  show max ((itemsOf s).x2 x - (itemsOf s).x1 x) (Ideal.ofBits .f32 0x00000000#32)
    * max ((itemsOf s).y2 x - (itemsOf s).y1 x) (Ideal.ofBits .f32 0x00000000#32) = _
  rw [Ideal.ofBits_zero_f32]; rfl

open Classical in
/-- The starting score: −1 off the first 20000 positions, the rule's on them. -/
theorem startOf_apply (s : ℕ → Vec Ideal S1x1x157x128 .f32) (x : S157x128.Idx) :
    startOf s x = if flat x < 20000 then (if cls s x ≠ 0 ∧ confThr < conf s x then conf s x else neg) else neg := by
  show Scalar.select (IntOp.cmpi .slt (k0_pay62 x) 20000#32)
    (Scalar.select (Ideal.cmp .one (cls s x) (Ideal.ofBits .f32 0x00000000#32) &&& Ideal.cmp .ogt (conf s x) confThr) (conf s x) neg) neg = _
  have hslt : IntOp.cmpi .slt (k0_pay62 x) 20000#32 = 1#1 ↔ flat x < 20000 := by
    rw [pay62_eq]
    have h := flat_lt x
    have h1 : (BitVec.ofNat 32 (flat x)).toInt = flat x := toInt_ofNat_small (by omega)
    have h2 : (20000#32).toInt = 20000 := by decide
    unfold IntOp.cmpi
    by_cases hf : flat x < 20000
    · have : (BitVec.ofNat 32 (flat x)).slt 20000#32 = true := by rw [BitVec.slt_iff_toInt_lt, h1, h2]; omega
      simp [this, hf]
    · have : (BitVec.ofNat 32 (flat x)).slt 20000#32 = false := by
        rw [Bool.eq_false_iff, ne_eq, BitVec.slt_iff_toInt_lt, h1, h2]; omega
      simp [this, hf]
  unfold Scalar.select
  refine if_congr hslt (if_congr ?_ rfl rfl) rfl
  refine (and_eq_one _ _).trans ?_
  rw [cmp_one, cmp_ogt, Ideal.ofBits_zero_f32]

end Cert.KernelItems
-- ==== Proof.KernelBlock.lean ====
/-
  The kernel's output block: its rows are the detection rule's, over the 20000 candidates of its columns. The grid of positions holds the
  candidates at its first 20000 places; the scores at the other places are −1 throughout.
-/
module

public import proofs.«01_k».proof.Proof.KernelItems

@[expose] public section

noncomputable section

namespace Cert.KernelBlock

open Idealize.ShloMosaic Idealize.ShloMosaic.ValueIdx Cert.KernelIdeal Cert.KernelIdeal.Gen Cert.Spec Cert.Trip Cert.KernelItems
open Cert.KernelRun (slab conf cls itemsOf startOf rowsOf outBlock scores scores_succ nextOf rowOf)

/-- The place of candidate `j`. -/
def place (j : Fin 20000) : S157x128.Idx := ix2 (⟨j.val / 128, by omega⟩ : Fin 157) (⟨j.val % 128, by omega⟩ : Fin 128)

theorem flat_place (j : Fin 20000) : flat (place j) = j.val := by
  show 128 * (j.val / 128) + j.val % 128 = j.val
  omega

theorem place_injective : Function.Injective place := fun i j h => Fin.ext (by rw [← flat_place, ← flat_place, h])

theorem eq_place {y : S157x128.Idx} (h : flat y < 20000) : y = place ⟨flat y, h⟩ := flat_injective (flat_place ⟨flat y, h⟩).symm

variable (s : ℕ → Vec Ideal S1x1x157x128 .f32)

/-- The candidates of the slabs. -/
def boxes : Boxes 20000 := boxesOf fun j => at_ s (place j)

theorem mask_le_zero : mask ≤ 0 := by
  unfold mask
  simp [Ideal.ofBits, Ideal.ieee, -EReal.coe_mul]

theorem area_eq (j : Fin 20000) : (itemsOf s).area (place j) = (boxes s).area j := by
  rw [area_apply, x1_apply, y1_apply, x2_apply, y2_apply]; rfl

theorem notMasked (h : Above mask (boxes s)) (j : Fin 20000) : NotMasked (itemsOf s) (place j) where
  cls := by
    show mask ≤ cls s (place j)
    rw [cls_apply]; exact mask_le_zero.trans (by exact_mod_cast Nat.zero_le _)
  x1 := (h j).1.trans_eq (x1_apply s (place j)).symm
  y1 := (h j).2.1.trans_eq (y1_apply s (place j)).symm
  x2 := (h j).2.2.1.trans_eq (x2_apply s (place j)).symm
  y2 := (h j).2.2.2.trans_eq (y2_apply s (place j)).symm
  area := by rw [area_eq]; exact mask_le_zero.trans (areaOf_nonneg _ _ _ _)

/-- Scores `S` over the grid that are the rule's scores `t` at the candidates and −1 elsewhere. -/
structure Holds (S : Grid) (t : Fin 20000 → EReal) : Prop where
  on : ∀ j, S (place j) = t j
  off : ∀ y, ¬ flat y < 20000 → S y = neg

/-- The first greatest candidate is at the top of the grid. -/
theorem Holds.isTop {S : Grid} {t : Fin 20000 → EReal} (h : Holds S t) (hn : ∀ j, neg ≤ t j) : IsTop S (place (firstMax t)) := by
  have hm := firstMax_spec t
  constructor
  · intro y
    rw [h.on]
    by_cases hy : flat y < 20000
    · rw [eq_place hy, h.on]; exact hm.1 _
    · rw [h.off y hy]; exact hn _
  · intro y he
    by_cases hy : flat y < 20000
    · rw [eq_place hy, h.on, h.on] at he
      rw [flat_place]
      by_contra hlt
      exact (hm.2 ⟨flat y, hy⟩ (by rw [Fin.lt_def]; show flat y < _; omega)).ne he
    · rw [flat_place]
      have := (firstMax t).isLt
      omega

theorem start_holds : Holds (startOf s) (boxes s).start where
  on j := by
    rw [startOf_apply, if_pos (by rw [flat_place]; exact j.isLt), cls_apply, conf_apply]
    rfl
  off y hy := by rw [startOf_apply, if_neg hy]

theorem next_holds (h : Above mask (boxes s)) {S : Grid} {t : Fin 20000 → EReal} (hS : Holds S t) (hn : ∀ j, neg ≤ t j) :
    Holds (nextOf (itemsOf s) S) ((boxes s).suppress (firstMax t) t) where
  on j := by
    rw [nextOf_apply (hS.isTop hn) (notMasked s h _), area_eq, area_eq, hS.on]
    simp only [x1_apply, y1_apply, x2_apply, y2_apply, place_injective.eq_iff]
    rfl
  off y hy := by
    rw [nextOf_apply (hS.isTop hn) (notMasked s h _), hS.off y hy, ite_self]

theorem scores_holds (h : Above mask (boxes s)) : ∀ k, Holds (scores (itemsOf s) (startOf s) k) ((boxes s).score k)
  | 0 => start_holds s
  | k + 1 => by
    rw [scores_succ, Boxes.score_succ]
    exact next_holds s h (scores_holds h k) ((boxes s).neg_le_score k)

/-- The row of a trip is the rule's. -/
theorem row_eq (h : Above mask (boxes s)) (k : ℕ) (c : Fin 6) (j : S1x128.Idx) (hj : (j 1).val = c.val) :
    rowOf (itemsOf s) (scores (itemsOf s) (startOf s) k) j = (boxes s).row k c := by
  have hk := scores_holds s h k
  rw [rowOf_apply (hk.isTop ((boxes s).neg_le_score k)) (notMasked s h _), hk.on]
  unfold Boxes.row
  by_cases hp : 0 < (boxes s).best k
  · rw [if_pos hp, if_pos (show 0 < (boxes s).score k (firstMax ((boxes s).score k)) from hp), hj]
    have hb : (boxes s).score k (firstMax ((boxes s).score k)) = (boxes s).conf ((boxes s).taken k) := (boxes s).best_eq_conf k hp
    rw [hb, x1_apply, y1_apply, x2_apply, y2_apply]
    match c with
    | 0 => exact cls_apply s _
    | 1 => rfl
    | 2 => rfl
    | 3 => rfl
    | 4 => rfl
    | 5 => rfl
  · rw [if_neg hp, if_neg (show ¬ 0 < (boxes s).score k (firstMax ((boxes s).score k)) from hp)]

/-- The rows of a block of slabs. -/
theorem outBlock_apply (x : Vec Ideal S1x93x157x128 .f32) (h : Above mask (boxes (slab x))) (k : Fin 200) (c : Fin 6) :
    outBlock x (ix3 (0 : Fin 1) k c) = (boxes (slab x)).row k.val c := by
  unfold outBlock
  refine (shapeCast_ab_1ab_apply (rowsOf (slab x)) shapeCasts_S200x6_S1x200x6 0 k c).trans ?_
  exact row_eq (slab x) h k.val c _ rfl

end Cert.KernelBlock
-- ==== Proof.Operand.lean ====
/-
  The kernel's operand, read: position `(p, q)` of slab `k` of image `b` is column `k` of the candidate placed there. So a block of the operand
  holds the candidates of its image.
-/
module

public import proofs.«01_k».proof.Proof.KernelBlock
public import proofs.«01_k».proof.Proof.Launch
public import Idealize.ShloMosaic.Lib.KernelVsHost
public import Idealize.ShloMosaic.Lib.StableHlo.RunRead

@[expose] public section

set_option maxRecDepth 16384

noncomputable section

namespace Cert.Operand

open Idealize.ShloMosaic Idealize.ShloMosaic.TcCoe Idealize.ShloMosaic.ValueIdx
open Cert.KernelIdeal Cert.KernelIdeal.Gen Cert.Spec Cert.KernelItems Cert.KernelBlock
open Cert.KernelRun (slab operand blockOf)

variable (m : (b : Loc nD τ sig) → Buf (Elt Ideal) b)

/-- The operand is the padded array, its candidates moved to the last axis and laid out in 157 rows of 128. -/
theorem operand_eq (c : Dev nD) : operand m c = shapeCast S8x93x157x128 (transpose S8x93x20096 [0, 2, 1]
      (pad S8x20096x93 ![0, 0, 0] ![0, 96, 0] ![0, 0, 0] (m ((c : Thread nD τ).loc main_arg0)) (sitofp (F := Ideal) .f32 (constantI S_ 32 0#32))
        pads_S8x20000x93_S8x20096x93_000_0960_000 h_S_)
      transposes_S8x20096x93_S8x93x20096_0_2_1) shapeCasts_S8x93x20096_S8x93x157x128 := by
  unfold operand V hostOps0
  after_reads_simp
  have h1 : ∀ p q r (x : (⟨S8x93x20096, .f32⟩ : BufTy).Contents (Elt Ideal)),
      (StableHlo.TRef.of (T := ⟨S8x93x20096, .f32⟩) main_call0_v1 p q r).toBuf x = x := fun _ _ _ _ => rfl
  have h2 : ∀ p q r (x : main_arg0.ty.Contents (Elt Ideal)),
      (StableHlo.TRef.of (T := ⟨S8x20000x93, .f32⟩) main_arg0 p q r).ofBuf x = x := fun _ _ _ _ => rfl
  simp only [StableHlo.TRef.ofBuf_toBuf, h1, h2]
  rfl

theorem operand_apply (c : Dev nD) (b : Fin 8) (k : Fin 93) (j : Fin 20000) :
    operand m c (ix4 b k (place j 0) (place j 1)) = m ((c : Thread nD τ).loc main_arg0) (ix3 b j k) := by
  rw [operand_eq]
  refine (shapeCast_apply _ shapeCasts_S8x93x20096_S8x93x157x128 _ (ix3 b k (⟨j.val, by omega⟩ : Fin 20096)) ?_).trans ?_
  · rw [Shape.rowMajor_val_four, Shape.rowMajor_val_three]
    show (b.val * 93 + k.val) * 20096 + j.val = ((b.val * 93 + k.val) * 157 + j.val / 128) * 128 + j.val % 128
    omega
  refine (transpose_ix3_021_apply _ transposes_S8x20096x93_S8x93x20096_0_2_1 b k _).trans ?_
  refine pad_apply_of_inside _ _ _ _ _ _ _ _ (ix3 b j k) fun a => ?_
  match a with
  | 0 => exact (by simp)
  | 1 => exact (by simp)
  | 2 => exact (by simp)

theorem boxes_block (c : Dev nD) (b : Fin 8) : boxes (slab (blockOf (operand m c) b)) = boxesAt (m ((c : Thread nD τ).loc main_arg0)) b := by
  unfold boxes boxesAt
  congr 1
  funext j k
  exact operand_apply m c b (Fin.ofNat 93 k) j

end Cert.Operand
-- ==== Proof.TopK.lean ====
/-
  What a top-k finds: its first index is that of the first greatest entry, and on entries that do not increase its indices are the positions in
  order.
-/
module

public import proofs.«01_k».proof.Proof.Spec
public import Idealize.ShloMosaic.PureOps
public import Idealize.ShloMosaic.PureOps.Ideal
public import Idealize.ShloMosaic.Lib.SortFacts

@[expose] public section

noncomputable section

namespace Cert.TopK

open Idealize.ShloMosaic Cert.Spec

/-- The comparison of a top-k. -/
abbrev gt (a b : EReal) : BitVec 1 := FloatOps.cmpfTotal (F := Ideal) (φ := .f32) .gt a b

/-- Position `i` goes before position `j`. -/
abbrev before {n : ℕ} (f : Fin n → EReal) (i j : Fin n) : Bool := gt (f i) (f j) == 1#1

theorem before_iff {n : ℕ} (f : Fin n → EReal) (i j : Fin n) : before f i j = true ↔ f j < f i := by
  rw [beq_iff_eq]
  show Ideal.cmp .ogt (f i) (f j) = 1#1 ↔ _
  unfold Ideal.cmp
  by_cases h : f j < f i <;> simp [h]

/-- The head of a sorted list of ascending positions is the first of the greatest. -/
theorem head_stableSort {n : ℕ} (f : Fin n → EReal) : ∀ l : List (Fin n), l.Pairwise (· < ·) → l ≠ [] →
    ∃ m r, stableSort (before f) l = m :: r ∧ ∀ x ∈ l, f x ≤ f m ∧ (x < m → f x < f m)
  | [], _, h => absurd rfl h
  | [a], _, _ => ⟨a, [], rfl, fun x hx => by
      obtain rfl : x = a := by simpa using hx
      exact ⟨le_rfl, fun h => absurd h (lt_irrefl _)⟩⟩
  | a :: b :: l, hl, _ => by
    rw [List.pairwise_cons] at hl
    obtain ⟨m, r, e, hm⟩ := head_stableSort f (b :: l) hl.2 (List.cons_ne_nil _ _)
    have hc : stableSort (before f) (a :: b :: l) = if before f m a then m :: insertBefore (before f) a r else a :: m :: r := by
      rw [stableSort, e]; rfl
    by_cases h : f a < f m
    · refine ⟨m, _, hc.trans (if_pos ((before_iff f m a).mpr h)), fun x hx => ?_⟩
      rcases List.mem_cons.mp hx with rfl | hx
      · exact ⟨h.le, fun _ => h⟩
      · exact hm x hx
    · refine ⟨a, _, hc.trans (if_neg fun hb => h ((before_iff f m a).mp hb)), fun x hx => ?_⟩
      rcases List.mem_cons.mp hx with rfl | hx
      · exact ⟨le_rfl, fun h => absurd h (lt_irrefl _)⟩
      · exact ⟨(hm x hx).1.trans (not_lt.mp h), fun hxa => absurd hxa (lt_asymm (hl.1 x hx))⟩

/-- A list of ascending positions whose entries do not increase is sorted. -/
theorem stableSort_of_antitone {n : ℕ} (f : Fin n → EReal) (hf : ∀ i j, i ≤ j → f j ≤ f i) :
    ∀ l : List (Fin n), l.Pairwise (· < ·) → stableSort (before f) l = l
  | [], _ => rfl
  | [_], _ => rfl
  | a :: b :: l, hl => by
    rw [List.pairwise_cons] at hl
    rw [stableSort, stableSort_of_antitone f hf (b :: l) hl.2]
    exact if_neg fun hb => absurd ((before_iff f b a).mp hb) (not_lt.mpr (hf a b (hl.1 b (List.mem_cons_self ..)).le))

/-- The position sorted first is that of the first greatest entry. -/
theorem sortedFrom_zero {n : ℕ} [NeZero n] (f : Fin n → EReal) : sortedFrom (before f) 0 = firstMax f := by
  have hn : List.finRange n ≠ [] := fun h => NeZero.ne n (by simpa using congrArg List.length h)
  obtain ⟨m, r, e, hm⟩ := head_stableSort f _ (List.sortedLT_finRange n).pairwise hn
  have he : sortedFrom (before f) 0 = m := by
    unfold sortedFrom sortPositions
    simp [e]
    rfl
  rw [he]
  exact IsFirstMax.eq_firstMax ⟨fun j => (hm j (List.mem_finRange j)).1, fun j hj => (hm j (List.mem_finRange j)).2 hj⟩

/-- On entries that do not increase the positions stay. -/
theorem sortedFrom_of_antitone {n : ℕ} (f : Fin n → EReal) (hf : ∀ i j, i ≤ j → f j ≤ f i) (k : Fin n) : sortedFrom (before f) k = k := by
  unfold sortedFrom sortPositions
  simp [stableSort_of_antitone f hf _ (List.sortedLT_finRange n).pairwise]
  rfl

/-- An index of a top-k is the position sorted there, of the fiber through it. -/
theorem topK_snd {s t : Shape} (a : Fin s.rank) (x : s.Idx → EReal) (h : s.Slices (fun _ => 0) t) (j : t.Idx) (i : s.Idx)
    (hi : ∀ b, (i b).val = (j (b.cast h.1.symm)).val) :
    (Host.topK t a.val gt x h).2 j = BitVec.ofNat 32 (sortedFrom (before fun k => x (i.along a k)) (i a)).val := by
  have hj : (fun b => ⟨0 + (j (b.cast h.1.symm)).val, by rw [Nat.zero_add, ← hi]; exact (i b).isLt⟩ : s.Idx) = i :=
    funext fun b => Fin.ext (by simp [hi])
  unfold Host.topK Host.sort2
  simp only [a.isLt, dif_pos]
  show iotaInDim s 32 a (Shape.Idx.along _ a _) = _
  rw [hj]
  show BitVec.ofNat 32 (Function.update i a _ a).val = _
  rw [Function.update_self]

end Cert.TopK
-- ==== Proof.RefEntry.lean ====
/-
  The reference's candidates: what it computes from the input before its loop, at candidate `j` of image `b`, is what the 93 columns there
  state.
-/
module

public import proofs.«01_k».proof.Proof.Gen.ReferenceIdeal.Step
public import proofs.«01_k».proof.Proof.Decode
public import proofs.«01_k».proof.Proof.TopK
public import Idealize.ShloMosaic.Lib.Pointwise

@[expose] public section

set_option maxRecDepth 16384

noncomputable section

namespace Cert.RefEntry

open Idealize.ShloMosaic hiding ix2 ix3
open Idealize.ShloMosaic.ValueIdx Cert.ReferenceIdeal Cert.ReferenceIdeal.Gen Cert.ReferenceIdeal.Step Cert.Spec

variable (x : (⟨S8x20000x93, .f32⟩ : BufTy).Contents (Elt Ideal)) (b : Fin 8) (j : Fin 20000)

/-- A column with a unit axis, that axis dropped. -/
theorem dropUnit {α : Type} (y : S8x20000x1.Idx → α) : shapeCast S8x20000 y shapeCasts_S8x20000x1_S8x20000 (ix2 b j) = y (ix3 b j (0 : Fin 1)) :=
  shapeCast_apply y shapeCasts_S8x20000x1_S8x20000 _ _ (by
    rw [Shape.rowMajor_val_three, Shape.rowMajor_val_two]
    show (b.val * 20000 + j.val) * 1 + 0 = b.val * 20000 + j.val
    omega)

/-- Column `k` of the input. -/
theorem column (k : ℕ) (h : S8x20000x93.Slices ![0, 0, k] S8x20000x1) (hk : k < 93) :
    shapeCast S8x20000 (extractStridedSlice S8x20000x1 ![0, 0, k] x h) shapeCasts_S8x20000x1_S8x20000 (ix2 b j) = x (ix3 b j (Fin.ofNat 93 k)) := by
  rw [dropUnit]
  refine congrArg x (funext fun a => Fin.ext ?_)
  match a with
  | 0 => exact Nat.zero_add _
  | 1 => exact Nat.zero_add _
  | 2 => exact (by show k + 0 = k % 93; omega)

/-- Field `k` of the candidates' array. -/
theorem field_column (y : S8x20000x6.Idx → EReal) (k : ℕ) (h : S8x20000x6.Slices ![0, 0, k] S8x20000x1) (hk : k < 6) :
    shapeCast S8x20000 (extractStridedSlice S8x20000x1 ![0, 0, k] y h) shapeCasts_S8x20000x1_S8x20000 (ix2 b j) = y (ix3 b j (⟨k, hk⟩ : Fin 6)) := by
  rw [dropUnit]
  refine congrArg y (funext fun a => Fin.ext ?_)
  match a with
  | 0 => exact Nat.zero_add _
  | 1 => exact Nat.zero_add _
  | 2 => exact Nat.add_zero _

/-- The class scores. -/
theorem scores_apply (k : Fin 81) : A_main_v0 x (ix3 b j k) = x (ix3 b j (Fin.ofNat 93 k.val)) := by
  refine congrArg x (funext fun a => Fin.ext ?_)
  match a with
  | 0 => exact Nat.zero_add _
  | 1 => exact Nat.zero_add _
  | 2 => exact (by show 0 + k.val = k.val % 93; omega)

theorem reduce_apply (y : FVec Ideal S8x20000x81 .f32) (u : FVec Ideal S_ .f32) (hu : u (Shape.Idx.first h_S_) = ⊥) :
    Host.reduce (FloatOps.maximumf (F := Ideal) (φ := .f32)) y u reducesTo_S8x20000x81_S8x20000_d2 h_S_ (ix2 b j)
      = y (ix3 b j (firstMax fun k : Fin 81 => y (ix3 b j k))) := by
  rw [Host.reduce_eq_fold, hu]
  refine (Shape.ReducesTo.fold_fiber_r3_a2 reducesTo_S8x20000x81_S8x20000_d2 (ix2 b j) _ _ _).trans ?_
  have he : ∀ k : Fin 81, y (Idealize.ShloMosaic.ix3 ⟨((ix2 b j : S8x20000.Idx) ⟨0, by decide⟩).val, b.isLt⟩ ⟨((ix2 b j : S8x20000.Idx) ⟨1, by decide⟩).val, j.isLt⟩ k)
      = y (ix3 b j k) := fun k => congrArg y (funext fun a => match a with | 0 => rfl | 1 => rfl | 2 => rfl)
  refine (congrArg (fun v => Finset.fold (FloatOps.maximumf (F := Ideal) (φ := .f32)) ⊥ v Finset.univ) (funext he)).trans ?_
  show (Finset.univ : Finset (Fin 81)).sup (fun k => y (ix3 b j k)) = _
  exact le_antisymm (Finset.sup_le fun k _ => (firstMax_spec fun k : Fin 81 => y (ix3 b j k)).1 k)
    (Finset.le_sup (f := fun k : Fin 81 => y (ix3 b j k)) (Finset.mem_univ _))

theorem ofBits_negInf : Ideal.ofBits .f32 0xFF800000#32 = ⊥ := by simp [Ideal.ofBits, Ideal.ieee]

/-- The class scores, as the rule reads them. -/
theorem classOf_eq : firstMax (fun k : Fin 81 => A_main_v0 x (ix3 b j k)) = classOf fun k => x (ix3 b j (Fin.ofNat 93 k)) := by
  unfold classOf
  congr 1
  exact funext fun k => scores_apply x b j k

/-- The class is the first greatest of the class scores. -/
theorem cls_apply : A_main_v2 x (ix2 b j) = (boxesAt x b).cls j := by
  have h1 : A_main_v1 x (ix2 b j) = A_main_indices x (ix3 b j (0 : Fin 1)) := dropUnit b j (A_main_indices x)
  have h2 : A_main_indices x (ix3 b j (0 : Fin 1)) = BitVec.ofNat 32 (classOf fun k => x (ix3 b j (Fin.ofNat 93 k))).val := by
    unfold A_main_indices
    refine (TopK.topK_snd (2 : Fin S8x20000x81.rank) (A_main_v0 x) sliceFits_S8x20000x81_S8x20000x1 _ (ix3 b j (0 : Fin 81)) ?_).trans ?_
    · intro a
      match a with
      | 0 => rfl
      | 1 => rfl
      | 2 => rfl
    · have hf : (fun k : Fin 81 => A_main_v0 x (Shape.Idx.along (ix3 b j (0 : Fin 81) : S8x20000x81.Idx) (2 : Fin S8x20000x81.rank) k))
          = fun k : Fin 81 => A_main_v0 x (ix3 b j k) :=
        funext fun k => congrArg (A_main_v0 x) (funext fun a => match a with | 0 => rfl | 1 => rfl | 2 => rfl)
      refine (congrArg (fun f : Fin 81 → EReal => BitVec.ofNat 32 (sortedFrom (TopK.before f) 0).val) hf).trans ?_
      rw [TopK.sortedFrom_zero, classOf_eq]
  have hc : (classOf fun k => x (ix3 b j (Fin.ofNat 93 k))).val < 81 := (classOf _).isLt
  show Scalar.sitofp (F := Ideal) .f32 (A_main_v1 x (ix2 b j)) = _
  rw [h1, h2]
  show (((BitVec.ofNat 32 (classOf fun k => x (ix3 b j (Fin.ofNat 93 k))).val).toInt : ℝ) : EReal) = _
  rw [BitVec.toInt_eq_toNat_of_lt (by simp; omega), BitVec.toNat_ofNat, Nat.mod_eq_of_lt (by omega)]
  rfl

/-- The confidence is its score. -/
theorem conf_apply : A_main_v4 x (ix2 b j) = (boxesAt x b).conf j := by
  unfold A_main_v4
  rw [reduce_apply b j _ _ ofBits_negInf]
  show A_main_v0 x (ix3 b j (firstMax fun k : Fin 81 => A_main_v0 x (ix3 b j k))) = _
  rw [scores_apply, classOf_eq]
  rfl

/-- Column `k` at the candidate. -/
def col (k : ℕ) : EReal := x (ix3 b j (Fin.ofNat 93 k))

theorem centerX_apply : A_main_v15 x (ix2 b j) = centerOf (col x b j 81) (col x b j 89) (col x b j 87) (col x b j 85) := by
  show centerOf (A_main_v6 x (ix2 b j)) (A_main_v8 x (ix2 b j)) (A_main_v11 x (ix2 b j)) (A_main_v14 x (ix2 b j)) = _
  rw [show A_main_v6 x (ix2 b j) = col x b j 81 from column x b j 81 _ (by decide), show A_main_v8 x (ix2 b j) = col x b j 89 from column x b j 89 _ (by decide),
    show A_main_v11 x (ix2 b j) = col x b j 87 from column x b j 87 _ (by decide), show A_main_v14 x (ix2 b j) = col x b j 85 from column x b j 85 _ (by decide)]

theorem centerY_apply : A_main_v26 x (ix2 b j) = centerOf (col x b j 82) (col x b j 90) (col x b j 88) (col x b j 86) := by
  show centerOf (A_main_v17 x (ix2 b j)) (A_main_v19 x (ix2 b j)) (A_main_v22 x (ix2 b j)) (A_main_v25 x (ix2 b j)) = _
  rw [show A_main_v17 x (ix2 b j) = col x b j 82 from column x b j 82 _ (by decide), show A_main_v19 x (ix2 b j) = col x b j 90 from column x b j 90 _ (by decide),
    show A_main_v22 x (ix2 b j) = col x b j 88 from column x b j 88 _ (by decide), show A_main_v25 x (ix2 b j) = col x b j 86 from column x b j 86 _ (by decide)]

theorem extentX_apply : A_main_v35 x (ix2 b j) = extentOf (col x b j 83) (col x b j 91) (col x b j 87) := by
  show extentOf (A_main_v28 x (ix2 b j)) (A_main_v30 x (ix2 b j)) (A_main_v34 x (ix2 b j)) = _
  rw [show A_main_v28 x (ix2 b j) = col x b j 83 from column x b j 83 _ (by decide), show A_main_v30 x (ix2 b j) = col x b j 91 from column x b j 91 _ (by decide),
    show A_main_v34 x (ix2 b j) = col x b j 87 from column x b j 87 _ (by decide)]

theorem extentY_apply : A_main_v44 x (ix2 b j) = extentOf (col x b j 84) (col x b j 92) (col x b j 88) := by
  show extentOf (A_main_v37 x (ix2 b j)) (A_main_v39 x (ix2 b j)) (A_main_v43 x (ix2 b j)) = _
  rw [show A_main_v37 x (ix2 b j) = col x b j 84 from column x b j 84 _ (by decide), show A_main_v39 x (ix2 b j) = col x b j 92 from column x b j 92 _ (by decide),
    show A_main_v43 x (ix2 b j) = col x b j 88 from column x b j 88 _ (by decide)]

theorem x1_apply : A_main_v49 x (ix2 b j) = (boxesAt x b).x1 j := by
  show lowOf (A_main_v15 x (ix2 b j)) (A_main_v35 x (ix2 b j)) = _
  rw [centerX_apply, extentX_apply]; rfl

theorem y1_apply : A_main_v54 x (ix2 b j) = (boxesAt x b).y1 j := by
  show lowOf (A_main_v26 x (ix2 b j)) (A_main_v44 x (ix2 b j)) = _
  rw [centerY_apply, extentY_apply]; rfl

theorem x2_apply : A_main_v59 x (ix2 b j) = (boxesAt x b).x2 j := by
  show highOf (A_main_v15 x (ix2 b j)) (A_main_v35 x (ix2 b j)) = _
  rw [centerX_apply, extentX_apply]; rfl

theorem y2_apply : A_main_v64 x (ix2 b j) = (boxesAt x b).y2 j := by
  show highOf (A_main_v26 x (ix2 b j)) (A_main_v44 x (ix2 b j)) = _
  rw [centerY_apply, extentY_apply]; rfl

/-- Six columns beside one another. -/
theorem cat_apply (y0 y1 y2 y3 y4 y5 : FVec Ideal S8x20000x1 .f32) (c : Fin 6)
    (h : Shape.Concatenates [S8x20000x1, S8x20000x1, S8x20000x1, S8x20000x1, S8x20000x1, S8x20000x1] S8x20000x6 2) (v : Fin 6 → EReal)
    (h0 : y0 (ix3 b j (0 : Fin 1)) = v 0) (h1 : y1 (ix3 b j (0 : Fin 1)) = v 1) (h2 : y2 (ix3 b j (0 : Fin 1)) = v 2)
    (h3 : y3 (ix3 b j (0 : Fin 1)) = v 3) (h4 : y4 (ix3 b j (0 : Fin 1)) = v 4) (h5 : y5 (ix3 b j (0 : Fin 1)) = v 5) :
    concatenate S8x20000x6 2 [⟨S8x20000x1, y0⟩, ⟨S8x20000x1, y1⟩, ⟨S8x20000x1, y2⟩, ⟨S8x20000x1, y3⟩, ⟨S8x20000x1, y4⟩, ⟨S8x20000x1, y5⟩]
      h (ix3 b j c) = v c := by
  refine (concatenate_apply _ _ _ _ _).trans ?_
  have hi : ∀ (y : FVec Ideal S8x20000x1 .f32) (i : S8x20000x1.Idx), (i 0).val = b.val → (i 1).val = j.val → y i = y (ix3 b j (0 : Fin 1)) :=
    fun y i h0 h1 => congrArg y (funext fun a => Fin.ext (match a with
      | 0 => h0
      | 1 => h1
      | 2 => Nat.lt_one_iff.mp (i 2).isLt))
  fin_cases c
  · exact (hi y0 _ rfl rfl).trans h0
  · exact (hi y1 _ rfl rfl).trans h1
  · exact (hi y2 _ rfl rfl).trans h2
  · exact (hi y3 _ rfl rfl).trans h3
  · exact (hi y4 _ rfl rfl).trans h4
  · exact (hi y5 _ rfl rfl).trans h5

/-- An array with a unit axis added. -/
theorem addUnit (y : S8x20000.Idx → EReal) (z : S8x20000x1.Idx → EReal)
    (hz : z = broadcastInDim S8x20000x1 ![0, 1] bcast_S8x20000_S8x20000x1_0_1 y) : z (ix3 b j (0 : Fin 1)) = y (ix2 b j) :=
  hz ▸ congrArg y (funext fun a => match a with | 0 => rfl | 1 => rfl)

theorem cls_column : A_main_v65 x (ix3 b j (0 : Fin 1)) = (boxesAt x b).cls j :=
  (addUnit b j _ _ (show A_main_v65 x = broadcastInDim S8x20000x1 ![0, 1] bcast_S8x20000_S8x20000x1_0_1 (A_main_v2 x) by unfold A_main_v65; exact Eq.refl _)).trans
    (cls_apply x b j)

theorem conf_column : A_main_v66 x (ix3 b j (0 : Fin 1)) = (boxesAt x b).conf j :=
  (addUnit b j _ _ (show A_main_v66 x = broadcastInDim S8x20000x1 ![0, 1] bcast_S8x20000_S8x20000x1_0_1 (A_main_v4 x) by unfold A_main_v66; exact Eq.refl _)).trans
    (conf_apply x b j)

theorem x1_column : A_main_v67 x (ix3 b j (0 : Fin 1)) = (boxesAt x b).x1 j :=
  (addUnit b j _ _ (show A_main_v67 x = broadcastInDim S8x20000x1 ![0, 1] bcast_S8x20000_S8x20000x1_0_1 (A_main_v49 x) by unfold A_main_v67; exact Eq.refl _)).trans
    (x1_apply x b j)

theorem y1_column : A_main_v68 x (ix3 b j (0 : Fin 1)) = (boxesAt x b).y1 j :=
  (addUnit b j _ _ (show A_main_v68 x = broadcastInDim S8x20000x1 ![0, 1] bcast_S8x20000_S8x20000x1_0_1 (A_main_v54 x) by unfold A_main_v68; exact Eq.refl _)).trans
    (y1_apply x b j)

theorem x2_column : A_main_v69 x (ix3 b j (0 : Fin 1)) = (boxesAt x b).x2 j :=
  (addUnit b j _ _ (show A_main_v69 x = broadcastInDim S8x20000x1 ![0, 1] bcast_S8x20000_S8x20000x1_0_1 (A_main_v59 x) by unfold A_main_v69; exact Eq.refl _)).trans
    (x2_apply x b j)

theorem y2_column : A_main_v70 x (ix3 b j (0 : Fin 1)) = (boxesAt x b).y2 j :=
  (addUnit b j _ _ (show A_main_v70 x = broadcastInDim S8x20000x1 ![0, 1] bcast_S8x20000_S8x20000x1_0_1 (A_main_v64 x) by unfold A_main_v70; exact Eq.refl _)).trans
    (y2_apply x b j)

theorem field_zero {n : ℕ} (B : Boxes n) (j : Fin n) : B.field 0 j = B.cls j := rfl
theorem field_one {n : ℕ} (B : Boxes n) (j : Fin n) : B.field 1 j = B.conf j := rfl
theorem field_two {n : ℕ} (B : Boxes n) (j : Fin n) : B.field 2 j = B.x1 j := rfl
theorem field_three {n : ℕ} (B : Boxes n) (j : Fin n) : B.field 3 j = B.y1 j := rfl
theorem field_four {n : ℕ} (B : Boxes n) (j : Fin n) : B.field 4 j = B.x2 j := rfl
theorem field_five {n : ℕ} (B : Boxes n) (j : Fin n) : B.field 5 j = B.y2 j := rfl

/-- The candidates' array. -/
theorem field_apply (c : Fin 6) : A_main_v71 x (ix3 b j c) = (boxesAt x b).field c j := by
  unfold A_main_v71
  exact cat_apply b j (A_main_v65 x) (A_main_v66 x) (A_main_v67 x) (A_main_v68 x) (A_main_v69 x) (A_main_v70 x) c _
    (fun c => (boxesAt x b).field c j) ((cls_column x b j).trans (field_zero _ j).symm) ((conf_column x b j).trans (field_one _ j).symm)
    ((x1_column x b j).trans (field_two _ j).symm) ((y1_column x b j).trans (field_three _ j).symm)
    ((x2_column x b j).trans (field_four _ j).symm) ((y2_column x b j).trans (field_five _ j).symm)

/-- The areas. -/
theorem area_apply : A_main_v96 x (ix2 b j) = (boxesAt x b).area j := by
  have h2 : A_main_v83 x (ix2 b j) = (boxesAt x b).x1 j := (field_column b j _ 2 _ (by decide)).trans ((field_apply x b j 2).trans (field_two (boxesAt x b) j))
  have h3 : A_main_v85 x (ix2 b j) = (boxesAt x b).y1 j := (field_column b j _ 3 _ (by decide)).trans ((field_apply x b j 3).trans (field_three (boxesAt x b) j))
  have h4 : A_main_v87 x (ix2 b j) = (boxesAt x b).x2 j := (field_column b j _ 4 _ (by decide)).trans ((field_apply x b j 4).trans (field_four (boxesAt x b) j))
  have h5 : A_main_v89 x (ix2 b j) = (boxesAt x b).y2 j := (field_column b j _ 5 _ (by decide)).trans ((field_apply x b j 5).trans (field_five (boxesAt x b) j))
  show max (A_main_v87 x (ix2 b j) - A_main_v83 x (ix2 b j)) (Ideal.ofBits .f32 0x00000000#32)
    * max (A_main_v89 x (ix2 b j) - A_main_v85 x (ix2 b j)) (Ideal.ofBits .f32 0x00000000#32) = _
  rw [h2, h3, h4, h5, Ideal.ofBits_zero_f32]
  rfl

/-- The starting scores. -/
theorem start_apply : A_main_v81 x (ix2 b j) = (boxesAt x b).start j := by
  have h0 : A_main_v75 x (ix2 b j) = (boxesAt x b).cls j := (field_column b j _ 0 _ (by decide)).trans ((field_apply x b j 0).trans (field_zero (boxesAt x b) j))
  have h1 : A_main_v73 x (ix2 b j) = (boxesAt x b).conf j := (field_column b j _ 1 _ (by decide)).trans ((field_apply x b j 1).trans (field_one (boxesAt x b) j))
  show Scalar.select (Ideal.cmp .une (A_main_v75 x (ix2 b j)) (Ideal.ofBits .f32 0x00000000#32) &&& Ideal.cmp .ogt (A_main_v73 x (ix2 b j)) confThr)
    (A_main_v73 x (ix2 b j)) neg = _
  rw [h0, h1, Ideal.ofBits_zero_f32]
  unfold Scalar.select Boxes.start
  refine if_congr ?_ rfl rfl
  unfold Ideal.cmp
  by_cases hc : (boxesAt x b).cls j = 0 <;> by_cases ht : confThr < (boxesAt x b).conf j <;> simp [hc, ht]

end Cert.RefEntry
-- ==== Proof.RefGather.lean ====
/-
  The reference's indexing, read at an index: of each image the entry, or the row, that image's own index names.
-/
module

public import proofs.«01_k».proof.Proof.Gen.ReferenceIdeal.Step
public import Idealize.ShloMosaic.Lib.ValueIdxCore

@[expose] public section

namespace Cert.RefGather

open Idealize.ShloMosaic Idealize.ShloMosaic.ValueIdx Cert.ReferenceIdeal Cert.ReferenceIdeal.Gen

/-- The dimension numbers of one entry per image and place: `B` images of `N` entries, `K` entries taken of each. -/
abbrev entryDims (B N K : ℕ) (wf : GatherDims.WF ⟨2, ![B, N]⟩ ⟨3, ![B, K, 1]⟩ ⟨2, ![B, K]⟩ [] [1] [0] [1] [0] 2 ![1, 1]) :
    GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

/-- Of image `b` at place `k` the entry its index there names. -/
theorem gather_at {α : Type} {B N K : ℕ} (wf : GatherDims.WF ⟨2, ![B, N]⟩ ⟨3, ![B, K, 1]⟩ ⟨2, ![B, K]⟩ [] [1] [0] [1] [0] 2 ![1, 1])
    (x : (⟨2, ![B, N]⟩ : Shape).Idx → α) (idx : IVec ⟨3, ![B, K, 1]⟩ 32) (b : Fin B) (k : Fin K) (i : Fin N)
    (h : (idx (ix3 b k (0 : Fin 1))).toInt.toNat = i.val) :
    Host.gather (entryDims B N K wf) x idx (ix2 b k) = x (ix2 b i) := by
  unfold Host.gather
  refine congrArg x (funext fun a => Fin.ext ?_)
  show GatherDims.start _ _ idx a + GatherDims.batchCoord _ _ a + GatherDims.offCoord _ _ a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    exact Nat.zero_add _
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (List.mem_singleton.mpr rfl)]
    have hsi : (entryDims B N K wf).siIdx (ix2 b k)
        ⟨List.idxOf (1 : Fin 2) (entryDims B N K wf).startIndexMap, List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi, h]
    exact Nat.min_eq_left (show i.val ≤ N - 1 by omega)

/-- Of image `b` the entry its index names. -/
theorem gather_entry {α : Type} (x : S8x20000.Idx → α) (idx : IVec S8x1x1 32) (b : Fin 8) (i : Fin 20000)
    (h : (idx (ix3 b (0 : Fin 1) (0 : Fin 1))).toInt.toNat = i.val) :
    Host.gather gather_S8x20000_S8x1x1_S8x1_n_1_0_0_1_2_11 x idx (ix2 b (0 : Fin 1)) = x (ix2 b i) :=
  gather_at _ x idx b 0 i h

/-- The dimension numbers of one row per image and place: `B` images of `N` rows of `C` entries, `K` rows taken of each. -/
abbrev rowDims (B N C K : ℕ)
    (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- Of image `b` at place `k` the row its index there names. -/
theorem gather_row {α : Type} {B N C K : ℕ}
    (wf : GatherDims.WF ⟨3, ![B, N, C]⟩ ⟨3, ![B, K, 1]⟩ ⟨3, ![B, K, C]⟩ [2] [1] [0] [1] [0] 2 ![1, 1, C])
    (x : (⟨3, ![B, N, C]⟩ : Shape).Idx → α) (idx : IVec ⟨3, ![B, K, 1]⟩ 32) (b : Fin B) (k : Fin K) (c : Fin C) (i : Fin N)
    (h : (idx (ix3 b k (0 : Fin 1))).toInt.toNat = i.val) :
    Host.gather (rowDims B N C K wf) x idx (ix3 b k c) = x (ix3 b i c) := by
  unfold Host.gather
  refine congrArg x (funext fun a => Fin.ext ?_)
  show GatherDims.start _ _ idx a + GatherDims.batchCoord _ _ a + GatherDims.offCoord _ _ a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    exact Nat.zero_add _
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (List.mem_singleton.mpr rfl)]
    have hsi : (rowDims B N C K wf).siIdx (ix3 b k c)
        ⟨List.idxOf (1 : Fin 3) (rowDims B N C K wf).startIndexMap, List.idxOf_lt_length_iff.2 (List.mem_singleton.mpr rfl)⟩ = ix3 b k (0 : Fin 1) := by
      funext d; refine Fin.ext ?_
      match d with
      | ⟨0, _⟩ => rfl
      | ⟨1, _⟩ => rfl
      | ⟨2, _⟩ => rfl
    rw [hsi, h]
    exact Nat.min_eq_left (show i.val ≤ N - 1 by omega)
  · rw [GatherDims.batchCoord_eq_zero _ _ _ (fun h => by simp at h)]
    unfold GatherDims.start GatherDims.offCoord
    rw [dif_neg (fun h => by simp at h),
      dif_pos ((GatherDims.mem_sKept _ _).mpr
        ⟨fun h => by simp at h, fun h => by simp at h⟩)]
    exact Nat.zero_add _

/-- Of image `b` the candidate its index names. -/
theorem gather_candidate {α : Type} (x : S8x20000x6.Idx → α) (idx : IVec S8x1x1 32) (b : Fin 8) (c : Fin 6) (i : Fin 20000)
    (h : (idx (ix3 b (0 : Fin 1) (0 : Fin 1))).toInt.toNat = i.val) :
    Host.gather gather_S8x20000x6_S8x1x1_S8x1x6_2_1_0_0_1_2_116 x idx (ix3 b (0 : Fin 1) c) = x (ix3 b i c) :=
  gather_row _ x idx b 0 c i h

/-- Of image `b` at place `k` the step its index names. -/
theorem gather_step {α : Type} (x : S8x400x6.Idx → α) (idx : IVec S8x200x1 32) (b : Fin 8) (k : Fin 200) (c : Fin 6) (i : Fin 400)
    (h : (idx (ix3 b k (0 : Fin 1))).toInt.toNat = i.val) :
    Host.gather gather_S8x400x6_S8x200x1_S8x200x6_2_1_0_0_1_2_116 x idx (ix3 b k c) = x (ix3 b i c) :=
  gather_row _ x idx b k c i h

end Cert.RefGather
-- ==== Proof.RefLoop.lean ====
/-
  The reference's loop: after `k` trips its scores are those after `k` steps, and its first `k` rows are the candidates taken.
-/
module

public import proofs.«01_k».proof.Proof.Gen.ReferenceIdeal.Run
public import proofs.«01_k».proof.Proof.RefEntry
public import proofs.«01_k».proof.Proof.RefGather
public import proofs.«01_k».proof.Proof.Trip
public import Idealize.ShloMosaic.Lib.WordCmp

@[expose] public section

set_option maxRecDepth 16384

noncomputable section

namespace Cert.RefLoop

open Idealize.ShloMosaic hiding ix1 ix2 ix3
open Idealize.ShloMosaic.ValueIdx Cert.ReferenceIdeal Cert.ReferenceIdeal.Gen Cert.ReferenceIdeal.Step Cert.ReferenceIdeal.Value Cert.Spec

/-- The contents of the buffers. -/
abbrev Vals := Valuation τ sig (Elt Ideal)

/-- An element per candidate of each image. -/
abbrev Col (α : Type) := S8x20000.Idx → α

/-- The left edges. -/
abbrev x1Of (V : Vals) : Col EReal := V (Proc.devRef .tc main_v100_0)

/-- The upper edges. -/
abbrev y1Of (V : Vals) : Col EReal := V (Proc.devRef .tc main_v100_1)

/-- The right edges. -/
abbrev x2Of (V : Vals) : Col EReal := V (Proc.devRef .tc main_v100_2)

/-- The lower edges. -/
abbrev y2Of (V : Vals) : Col EReal := V (Proc.devRef .tc main_v100_3)

/-- The areas. -/
abbrev areasOf (V : Vals) : Col EReal := V (Proc.devRef .tc main_v100_4)

/-- The candidates' places. -/
abbrev anchorOf (V : Vals) : Col (BitVec 32) := V (Proc.devRef .tc main_v100_5)

/-- The candidates' fields. -/
abbrev fieldOf (V : Vals) : S8x20000x6.Idx → EReal := V (Proc.devRef .tc main_v100_6)

/-- The trip counter. -/
abbrev tripOf (V : Vals) : S_.Idx → BitVec 32 := V (Proc.devRef .tc main_v100_7)

/-- The scores. -/
abbrev scoreOf (V : Vals) : Col EReal := V (Proc.devRef .tc main_v100_8)

/-- The rows. -/
abbrev rowsOf (V : Vals) : S400x8x6.Idx → EReal := V (Proc.devRef .tc main_v100_9)

/-- Which rows count. -/
abbrev validOf (V : Vals) : S400x8.Idx → BitVec 1 := V (Proc.devRef .tc main_v100_10)

/-- The index taken in each image. -/
abbrev takenOf (V : Vals) : IVec S8x1 32 := res_main_while0b_indices_28 V

/-- The intersections with the candidate taken. -/
abbrev interOf (V : Vals) : Col EReal := res_main_while0b_v135 V

/-- The index the scores name in image `b`. -/
theorem indices_apply (V : Vals) (b : Fin 8) (s : Fin 20000 → EReal)
    (hs : ∀ j, scoreOf V (ix2 b j) = s j) :
    takenOf V (ix2 b (0 : Fin 1)) = BitVec.ofNat 32 (firstMax s).val := by
  unfold takenOf res_main_while0b_indices_28
  refine (TopK.topK_snd (1 : Fin S8x20000.rank) (scoreOf V) sliceFits_S8x20000_S8x1 _ (ix2 b (0 : Fin 20000)) ?_).trans ?_
  · intro a
    match a with
    | 0 => rfl
    | 1 => rfl
  · have he : ∀ k : Fin 20000, Shape.Idx.along (ix2 b (0 : Fin 20000) : S8x20000.Idx) (1 : Fin S8x20000.rank) k = ix2 b k :=
      fun k => funext fun a => match a with | 0 => rfl | 1 => rfl
    have hf : (fun k : Fin 20000 => scoreOf V (Shape.Idx.along (ix2 b (0 : Fin 20000) : S8x20000.Idx) (1 : Fin S8x20000.rank) k)) = s :=
      funext fun k => (congrArg (scoreOf V) (he k)).trans (hs k)
    refine (congrArg (fun f : Fin 20000 → EReal => BitVec.ofNat 32 (sortedFrom (TopK.before f) 0).val) hf).trans ?_
    rw [TopK.sortedFrom_zero]

/-- An index with a unit axis added. -/
theorem index_apply (idx : IVec S8x1 32) (b : Fin 8) (i : Fin 20000) (h : idx (ix2 b (0 : Fin 1)) = BitVec.ofNat 32 i.val) :
    (broadcastInDim S8x1x1 ![0, 1] bcast_S8x1_S8x1x1_0_1 idx (ix3 b (0 : Fin 1) (0 : Fin 1))).toInt.toNat = i.val := by
  have h1 : broadcastInDim S8x1x1 ![0, 1] bcast_S8x1_S8x1x1_0_1 idx (ix3 b (0 : Fin 1) (0 : Fin 1)) = idx (ix2 b (0 : Fin 1)) :=
    congrArg idx (funext fun a => match a with | 0 => rfl | 1 => rfl)
  rw [h1, h, Trip.toInt_ofNat_small (by omega)]
  exact Int.toNat_natCast _

/-- Of each image the entry its index names. -/
abbrev entryOf {α : Type} (y : Col α) (idx : IVec S8x1 32) : S8x1.Idx → α :=
  Host.gather gather_S8x20000_S8x1x1_S8x1_n_1_0_0_1_2_11 y (broadcastInDim S8x1x1 ![0, 1] bcast_S8x1_S8x1x1_0_1 idx)

/-- That entry, at every candidate of the image. -/
abbrev spread {α : Type} (y : S8x1.Idx → α) : Col α := broadcastInDim S8x20000 ![0, 1] bcast_S8x1_S8x20000_0_1 y

theorem spread_apply {α : Type} (y : S8x1.Idx → α) (b : Fin 8) (j : Fin 20000) : spread y (ix2 b j) = y (ix2 b (0 : Fin 1)) :=
  congrArg y (funext fun a => match a with | 0 => rfl | 1 => rfl)

theorem entryOf_apply {α : Type} (y : Col α) (idx : IVec S8x1 32) (b : Fin 8) (i : Fin 20000) (h : idx (ix2 b (0 : Fin 1)) = BitVec.ofNat 32 i.val) :
    entryOf y idx (ix2 b (0 : Fin 1)) = y (ix2 b i) :=
  RefGather.gather_entry y _ b i (index_apply idx b i h)

theorem spread_entryOf {α : Type} (y : Col α) (idx : IVec S8x1 32) (b : Fin 8) (i j : Fin 20000) (h : idx (ix2 b (0 : Fin 1)) = BitVec.ofNat 32 i.val) :
    spread (entryOf y idx) (ix2 b j) = y (ix2 b i) :=
  (spread_apply _ b j).trans (entryOf_apply y idx b i h)

/-- Of each image the candidate its index names. -/
abbrev candidateOf (y : S8x20000x6.Idx → EReal) (idx : IVec S8x1 32) : S8x6.Idx → EReal :=
  shapeCast S8x6 (Host.gather gather_S8x20000x6_S8x1x1_S8x1x6_2_1_0_0_1_2_116 y (broadcastInDim S8x1x1 ![0, 1] bcast_S8x1_S8x1x1_0_1 idx))
    shapeCasts_S8x1x6_S8x6

theorem candidateOf_apply (y : S8x20000x6.Idx → EReal) (idx : IVec S8x1 32) (b : Fin 8) (c : Fin 6) (i : Fin 20000)
    (h : idx (ix2 b (0 : Fin 1)) = BitVec.ofNat 32 i.val) : candidateOf y idx (ix2 b c) = y (ix3 b i c) := by
  refine (shapeCast_apply _ shapeCasts_S8x1x6_S8x6 _ (ix3 b (0 : Fin 1) c) ?_).trans (RefGather.gather_candidate y _ b c i (index_apply idx b i h))
  rw [Shape.rowMajor_val_three, Shape.rowMajor_val_two]
  show (b.val * 1 + 0) * 6 + c.val = b.val * 6 + c.val
  omega

/-- A block written at `k` is read there. -/
theorem put_hit {α : Type} {s u : Shape} (x : s.Idx → α) (upd : u.Idx → α) (start : Fin s.rank → Int) (h : s.Slices (fun _ => 0) u)
    (k : Fin s.rank → ℕ) (hk : s.Slices k u) (e : ∀ a, start a = (k a : Int)) (i : s.Idx) (j : u.Idx)
    (hi : ∀ a, (i a).val = k a + (j (a.cast h.1.symm)).val) : Host.dynamicUpdateSlice x upd start h i = upd j := by
  rw [WordCmp.dynamicUpdateSlice_eq_update x upd start h k hk e]
  unfold updateSlice
  rw [dif_pos fun a => ⟨by rw [hi]; omega, by rw [hi]; have := (j (a.cast h.1.symm)).isLt; omega⟩]
  refine congrArg upd (funext fun b => Fin.ext ?_)
  show (i (b.cast h.1)).val - k (b.cast h.1) = (j b).val
  rw [hi]
  exact Nat.add_sub_cancel_left _ _

/-- What lies before the block written is as it was. -/
theorem put_before {α : Type} {s u : Shape} (x : s.Idx → α) (upd : u.Idx → α) (start : Fin s.rank → Int) (h : s.Slices (fun _ => 0) u)
    (k : Fin s.rank → ℕ) (hk : s.Slices k u) (e : ∀ a, start a = (k a : Int)) (i : s.Idx) (a : Fin s.rank) (ha : (i a).val < k a) :
    Host.dynamicUpdateSlice x upd start h i = x i := by
  rw [WordCmp.dynamicUpdateSlice_eq_update x upd start h k hk e]
  unfold updateSlice
  rw [dif_neg fun hin => absurd (hin a).1 (by omega)]

variable (x : (⟨S8x20000x93, .f32⟩ : BufTy).Contents (Elt Ideal))

/-- What the loop's buffers hold before trip `k`. -/
structure Holds (k : ℕ) (V : Vals) : Prop where
  x1 : ∀ b j, x1Of V (ix2 b j) = (boxesAt x b).x1 j
  y1 : ∀ b j, y1Of V (ix2 b j) = (boxesAt x b).y1 j
  x2 : ∀ b j, x2Of V (ix2 b j) = (boxesAt x b).x2 j
  y2 : ∀ b j, y2Of V (ix2 b j) = (boxesAt x b).y2 j
  area : ∀ b j, areasOf V (ix2 b j) = (boxesAt x b).area j
  anchor : ∀ (b : Fin 8) (j : Fin 20000), anchorOf V (ix2 b j) = BitVec.ofNat 32 j.val
  field : ∀ b j c, fieldOf V (ix3 b j c) = (boxesAt x b).field c j
  trip : ∀ i, tripOf V i = BitVec.ofNat 32 k
  score : ∀ b j, scoreOf V (ix2 b j) = (boxesAt x b).score k j
  rows : ∀ (i : Fin 400) b c, i.val < k → rowsOf V (ix3 i b c) = (boxesAt x b).field c ((boxesAt x b).taken i.val)
  valid : ∀ (i : Fin 400) b, i.val < k → validOf V (ix2 i b) = Ideal.cmp .ogt ((boxesAt x b).best i.val) 0

variable {x} {k : ℕ} {V : Vals}

/-- The index found is that of the candidate taken. -/
theorem Holds.index (h : Holds x k V) (b : Fin 8) :
    takenOf V (ix2 b (0 : Fin 1)) = BitVec.ofNat 32 ((boxesAt x b).taken k).val :=
  indices_apply V b _ (h.score b)

/-- The intersection with the candidate taken. -/
theorem Holds.inter (h : Holds x k V) (b : Fin 8) (j i : Fin 20000)
    (hi : takenOf V (ix2 b (0 : Fin 1)) = BitVec.ofNat 32 i.val) :
    interOf V (ix2 b j)
      = max (min ((boxesAt x b).x2 j) ((boxesAt x b).x2 i) - max ((boxesAt x b).x1 j) ((boxesAt x b).x1 i)) 0
        * max (min ((boxesAt x b).y2 j) ((boxesAt x b).y2 i) - max ((boxesAt x b).y1 j) ((boxesAt x b).y1 i)) 0 := by
  unfold interOf res_main_while0b_v135
  show max (min (x2Of V (ix2 b j)) (spread (entryOf (x2Of V) (takenOf V)) (ix2 b j))
      - max (x1Of V (ix2 b j)) (spread (entryOf (x1Of V) (takenOf V)) (ix2 b j))) (Ideal.ofBits .f32 0x00000000#32)
    * max (min (y2Of V (ix2 b j)) (spread (entryOf (y2Of V) (takenOf V)) (ix2 b j))
      - max (y1Of V (ix2 b j)) (spread (entryOf (y1Of V) (takenOf V)) (ix2 b j))) (Ideal.ofBits .f32 0x00000000#32) = _
  rw [spread_entryOf _ _ b i j hi, spread_entryOf _ _ b i j hi, spread_entryOf _ _ b i j hi, spread_entryOf _ _ b i j hi,
    h.x1, h.x1, h.y1, h.y1, h.x2, h.x2, h.y2, h.y2, Ideal.ofBits_zero_f32]

/-- The scores after the trip. -/
theorem Holds.score_succ (h : Holds x k V) (b : Fin 8) (j : Fin 20000) :
    scoreOf (STEP V) (ix2 b j) = (boxesAt x b).score (k + 1) j := by
  have hi := h.index b
  refine (congrFun (STEP_main_v100_8 V) (ix2 b j)).trans ?_
  unfold Value.step_main_v100_8
  show Scalar.select (Ideal.cmp .ogt (Ideal.div (interOf V (ix2 b j))
        (max (areasOf V (ix2 b j) + spread (entryOf (areasOf V) (takenOf V)) (ix2 b j)
          - interOf V (ix2 b j)) unionFloor)) iouThr
      ||| IntOp.cmpi .eq (anchorOf V (ix2 b j)) (spread (takenOf V) (ix2 b j)))
    neg (scoreOf V (ix2 b j)) = _
  rw [spread_entryOf _ _ b _ j hi, spread_apply, hi, h.inter b j _ hi, h.area, h.area, h.anchor, h.score, Boxes.score_succ]
  unfold Scalar.select Boxes.suppress
  refine if_congr ?_ rfl rfl
  refine (Trip.or_eq_one _ _).trans (or_congr (Trip.cmp_ogt _ _) ((Trip.cmpi_eq _ _).trans ((Trip.ofNat_inj_small ?_ ?_).trans Fin.ext_iff.symm)))
  · have := j.isLt; omega
  · have := ((boxesAt x b).taken k).isLt; omega

/-- Before the trip the counter, read signed. -/
theorem Holds.counter (h : Holds x k V) (hk : k < 400) (i : S_.Idx) : (tripOf V i).toInt = (k : Int) := by
  rw [h.trip]
  exact Trip.toInt_ofNat_small (by omega)

/-- The rows after the trip. -/
theorem Holds.rows_succ (h : Holds x k V) (hk : k < 400) (i : Fin 400) (b : Fin 8) (c : Fin 6) (hik : i.val < k + 1) :
    rowsOf (STEP V) (ix3 i b c) = (boxesAt x b).field c ((boxesAt x b).taken i.val) := by
  have hs : S400x8x6.Slices ![k, 0, 0] S1x8x6 := ⟨rfl, fun a => by
    match a with
    | 0 => exact (show k + 1 ≤ 400 by omega)
    | 1 => exact Nat.le_of_eq (Nat.zero_add _)
    | 2 => exact Nat.le_of_eq (Nat.zero_add _)⟩
  have he : ∀ a, (fun k : Fin 3 => (((![V (Proc.devRef .tc main_v100_7), constantI S_ 32 0#32, constantI S_ 32 0#32] : Fin 3 → (⟨S_, .i32⟩ : BufTy).Contents (Elt Ideal))) k (Shape.Idx.first h_S_)).toInt) a = ((![k, 0, 0] : Fin 3 → ℕ) a : Int) := fun a => by
    match a with
    | 0 => exact h.counter hk _
    | 1 => rfl
    | 2 => rfl
  refine (congrFun (STEP_main_v100_9 V) (ix3 i b c)).trans ?_
  unfold Value.step_main_v100_9
  by_cases hl : i.val < k
  · exact (put_before _ _ _ updateFits_S400x8x6_S1x8x6 ![k, 0, 0] hs he (ix3 i b c) 0 hl).trans (h.rows i b c hl)
  · obtain hik : i.val = k := by omega
    refine (put_hit _ _ _ updateFits_S400x8x6_S1x8x6 ![k, 0, 0] hs he (ix3 i b c) (ix3 (0 : Fin 1) b c) ?_).trans ?_
    · intro a
      match a with
      | 0 => exact hik
      | 1 => exact (Nat.zero_add _).symm
      | 2 => exact (Nat.zero_add _).symm
    · rw [hik, ← h.field]
      refine (congrArg (candidateOf (fieldOf V) (takenOf V)) (show _ = ix2 b c from funext fun a => match a with | 0 => rfl | 1 => rfl)).trans ?_
      exact candidateOf_apply _ _ b c _ (h.index b)

/-- Which rows count, after the trip. -/
theorem Holds.valid_succ (h : Holds x k V) (hk : k < 400) (i : Fin 400) (b : Fin 8) (hik : i.val < k + 1) :
    validOf (STEP V) (ix2 i b) = Ideal.cmp .ogt ((boxesAt x b).best i.val) 0 := by
  have hs : S400x8.Slices ![k, 0] S1x8 := ⟨rfl, fun a => by
    match a with
    | 0 => exact (show k + 1 ≤ 400 by omega)
    | 1 => exact Nat.le_of_eq (Nat.zero_add _)⟩
  have he : ∀ a, (fun k : Fin 2 => (((![V (Proc.devRef .tc main_v100_7), constantI S_ 32 0#32] : Fin 2 → (⟨S_, .i32⟩ : BufTy).Contents (Elt Ideal))) k (Shape.Idx.first h_S_)).toInt) a = ((![k, 0] : Fin 2 → ℕ) a : Int) := fun a => by
    match a with
    | 0 => exact h.counter hk _
    | 1 => rfl
  refine (congrFun (STEP_main_v100_10 V) (ix2 i b)).trans ?_
  unfold Value.step_main_v100_10
  by_cases hl : i.val < k
  · exact (put_before _ _ _ updateFits_S400x8_S1x8 ![k, 0] hs he (ix2 i b) 0 hl).trans (h.valid i b hl)
  · obtain hik : i.val = k := by omega
    refine (put_hit _ _ _ updateFits_S400x8_S1x8 ![k, 0] hs he (ix2 i b) (ix2 (0 : Fin 1) b) ?_).trans ?_
    · intro a
      match a with
      | 0 => exact hik
      | 1 => exact (Nat.zero_add _).symm
    · rw [hik]
      have h1 : shapeCast S8 (entryOf (scoreOf V) (takenOf V)) shapeCasts_S8x1_S8 (ix1 b) = (boxesAt x b).best k := by
        refine (shapeCast_apply _ shapeCasts_S8x1_S8 _ (ix2 b (0 : Fin 1)) ?_).trans ((entryOf_apply _ _ b _ (h.index b)).trans (h.score b _))
        rw [Shape.rowMajor_val_two, Shape.rowMajor_val_one]
        show b.val * 1 + 0 = b.val
        omega
      rw [← h1, ← Ideal.ofBits_zero_f32]
      exact congrArg (fun j : S8.Idx => Ideal.cmp .ogt (shapeCast S8 (entryOf (scoreOf V) (takenOf V)) shapeCasts_S8x1_S8 j) (Ideal.ofBits .f32 0x00000000#32))
        (funext fun a => match a with | 0 => rfl)

/-- One trip is one step. -/
theorem Holds.succ (h : Holds x k V) (hk : k < 400) : Holds x (k + 1) (STEP V) where
  x1 b j := (congrFun (STEP_main_v100_0 V) _).trans (h.x1 b j)
  y1 b j := (congrFun (STEP_main_v100_1 V) _).trans (h.y1 b j)
  x2 b j := (congrFun (STEP_main_v100_2 V) _).trans (h.x2 b j)
  y2 b j := (congrFun (STEP_main_v100_3 V) _).trans (h.y2 b j)
  area b j := (congrFun (STEP_main_v100_4 V) _).trans (h.area b j)
  anchor b j := (congrFun (STEP_main_v100_5 V) _).trans (h.anchor b j)
  field b j c := (congrFun (STEP_main_v100_6 V) _).trans (h.field b j c)
  trip i := (congrFun (STEP_main_v100_7 V) i).trans ((congrArg (· + 1#32) (h.trip i)).trans (BitVec.ofNat_add _ _).symm)
  score := h.score_succ
  rows := h.rows_succ hk
  valid := h.valid_succ hk

/-- As many trips as steps. -/
theorem Holds.iterate (h : Holds x 0 V) : ∀ k, k ≤ 400 → Holds x k (STEP^[k] V)
  | 0, _ => h
  | k + 1, hk => by
    rw [Function.iterate_succ_apply']
    exact (h.iterate k (by omega)).succ hk

end Cert.RefLoop
-- ==== Proof.RefStart.lean ====
/-
  What the reference's loop starts from: the candidates of the input, none taken yet.
-/
module

public import proofs.«01_k».proof.Proof.RefLoop

@[expose] public section

set_option maxRecDepth 65536

noncomputable section

namespace Cert.RefLoop

open Idealize.ShloMosaic hiding ix1 ix2 ix3
open Idealize.ShloMosaic.StableHlo Idealize.ShloMosaic.ValueIdx Cert.ReferenceIdeal Cert.ReferenceIdeal.Gen Cert.ReferenceIdeal.Step
  Cert.ReferenceIdeal.Value Cert.Spec

variable (m : (ℓ : Loc nD τ sig) → Buf (Elt Ideal) ℓ) (c : Dev nD)

/-- The input. -/
abbrev input : (⟨S8x20000x93, .f32⟩ : BufTy).Contents (Elt Ideal) := m ((c.tc : Thread nD τ).loc main_arg0)

/-- The buffers as the loop is entered. -/
abbrev atStart : Vals := entryContents preI m c

/-- Six columns side by side, each replaced by an equal one. -/
theorem columns_congr {a0 a1 a2 a3 a4 a5 b0 b1 b2 b3 b4 b5 : S8x20000x1.Idx → EReal} (h0 : a0 = b0) (h1 : a1 = b1) (h2 : a2 = b2) (h3 : a3 = b3) (h4 : a4 = b4)
    (h5 : a5 = b5) :
    concatenate S8x20000x6 2 [⟨S8x20000x1, a0⟩, ⟨S8x20000x1, a1⟩, ⟨S8x20000x1, a2⟩, ⟨S8x20000x1, a3⟩, ⟨S8x20000x1, a4⟩, ⟨S8x20000x1, a5⟩]
        concatenates_S8x20000x1_S8x20000x1_S8x20000x1_S8x20000x1_S8x20000x1_S8x20000x1_S8x20000x6_d2
      = concatenate S8x20000x6 2 [⟨S8x20000x1, b0⟩, ⟨S8x20000x1, b1⟩, ⟨S8x20000x1, b2⟩, ⟨S8x20000x1, b3⟩, ⟨S8x20000x1, b4⟩, ⟨S8x20000x1, b5⟩]
        concatenates_S8x20000x1_S8x20000x1_S8x20000x1_S8x20000x1_S8x20000x1_S8x20000x1_S8x20000x6_d2 := by
  subst h0 h1 h2 h3 h4 h5
  rfl

/-- The candidates' fields, as the operations before the loop leave them. -/
abbrev packed : S8x20000x6.Idx → EReal :=
  concatenate S8x20000x6 2
    [⟨S8x20000x1, upto hostOps0 (launchContents m c) 82 (Proc.devRef .tc main_v65)⟩, ⟨S8x20000x1, upto hostOps0 (launchContents m c) 82 (Proc.devRef .tc main_v66)⟩,
      ⟨S8x20000x1, upto hostOps0 (launchContents m c) 82 (Proc.devRef .tc main_v67)⟩, ⟨S8x20000x1, upto hostOps0 (launchContents m c) 82 (Proc.devRef .tc main_v68)⟩,
      ⟨S8x20000x1, upto hostOps0 (launchContents m c) 82 (Proc.devRef .tc main_v69)⟩, ⟨S8x20000x1, upto hostOps0 (launchContents m c) 82 (Proc.devRef .tc main_v70)⟩]
    concatenates_S8x20000x1_S8x20000x1_S8x20000x1_S8x20000x1_S8x20000x1_S8x20000x1_S8x20000x6_d2

theorem packed_eq : packed m c = A_main_v71 (F := Ideal) (input m c) := by
  unfold A_main_v71
  refine columns_congr ?_ ?_ ?_ ?_ ?_ ?_ <;> after_reads_simp <;> rfl

theorem field_start : fieldOf (atStart m c) = packed m c := by
  unfold fieldOf atStart
  simp only [entryContents, afterL_cons, afterL_nil]
  after_reads_simp
  rfl

theorem anchor_start : anchorOf (atStart m c) = K_main_v97 (F := Ideal) := by
  unfold anchorOf atStart
  simp only [entryContents, afterL_cons, afterL_nil]
  after_reads_simp
  rfl

/-- A column of the candidates' fields. -/
abbrev fieldColumn (y : S8x20000x6.Idx → EReal) (k : ℕ) (h : S8x20000x6.Slices ![0, 0, k] S8x20000x1) : Col EReal :=
  shapeCast S8x20000 (extractStridedSlice S8x20000x1 ![0, 0, k] y h) shapeCasts_S8x20000x1_S8x20000

/-- The corners are four of those columns. -/
theorem corners_start : x1Of (atStart m c) = fieldColumn (packed m c) 2 slices_S8x20000x6_S8x20000x1_0_0_2
    ∧ y1Of (atStart m c) = fieldColumn (packed m c) 3 slices_S8x20000x6_S8x20000x1_0_0_3
    ∧ x2Of (atStart m c) = fieldColumn (packed m c) 4 slices_S8x20000x6_S8x20000x1_0_0_4
    ∧ y2Of (atStart m c) = fieldColumn (packed m c) 5 slices_S8x20000x6_S8x20000x1_0_0_5 := by
  unfold x1Of y1Of x2Of y2Of atStart
  simp only [entryContents, afterL_cons, afterL_nil]
  refine ⟨?_, ?_, ?_, ?_⟩ <;> after_reads_simp <;> rfl

theorem area_start : areasOf (atStart m c) = A_main_v96 (F := Ideal) (input m c) := by
  unfold areasOf atStart
  simp only [entryContents, afterL_cons, afterL_nil]
  after_reads_simp
  unfold A_main_v96 A_main_v92 A_main_v95 A_main_v90 A_main_v93 A_main_v83 A_main_v85 A_main_v87 A_main_v89 A_main_v82 A_main_v84 A_main_v86 A_main_v88
  rw [← packed_eq]
  rfl

theorem score_start : scoreOf (atStart m c) = A_main_v81 (F := Ideal) (input m c) := by
  unfold scoreOf atStart
  simp only [entryContents, afterL_cons, afterL_nil]
  after_reads_simp
  unfold A_main_v81 A_main_v80 A_main_v77 A_main_v79 A_main_v75 A_main_v73 A_main_v74 A_main_v72
  rw [← packed_eq]
  rfl

/-- Before the first trip. -/
theorem holds_start : Holds (input m c) 0 (atStart m c) := by
  have hf : fieldOf (atStart m c) = A_main_v71 (F := Ideal) (input m c) := (field_start m c).trans (packed_eq m c)
  have hcol : ∀ (k : ℕ) (h : S8x20000x6.Slices ![0, 0, k] S8x20000x1) (hk : k < 6) (b : Fin 8) (j : Fin 20000),
      fieldColumn (packed m c) k h (ix2 b j) = (boxesAt (input m c) b).field ⟨k, hk⟩ j := fun k h hk b j => by
    rw [packed_eq]
    exact (RefEntry.field_column b j _ k h hk).trans (RefEntry.field_apply (input m c) b j ⟨k, hk⟩)
  constructor
  · exact fun b j => (congrFun (corners_start m c).1 _).trans ((hcol 2 _ (by decide) b j).trans (RefEntry.field_two _ j))
  · exact fun b j => (congrFun (corners_start m c).2.1 _).trans ((hcol 3 _ (by decide) b j).trans (RefEntry.field_three _ j))
  · exact fun b j => (congrFun (corners_start m c).2.2.1 _).trans ((hcol 4 _ (by decide) b j).trans (RefEntry.field_four _ j))
  · exact fun b j => (congrFun (corners_start m c).2.2.2 _).trans ((hcol 5 _ (by decide) b j).trans (RefEntry.field_five _ j))
  · exact fun b j => (congrFun (area_start m c) _).trans (RefEntry.area_apply (input m c) b j)
  · exact fun b j => (congrFun (anchor_start m c) _).trans rfl
  · exact fun b j k => (congrFun hf _).trans (RefEntry.field_apply (input m c) b j k)
  · exact fun i => (congrFun (ctr_entry m c) i).trans rfl
  · exact fun b j => (congrFun (score_start m c) _).trans (RefEntry.start_apply (input m c) b j)
  · exact fun i b k h => absurd h (Nat.not_lt_zero _)
  · exact fun i b h => absurd h (Nat.not_lt_zero _)

/-- After the last trip. -/
theorem holds_end : Holds (input m c) 400 (STEP^[400] (atStart m c)) := (holds_start m c).iterate 400 le_rfl

end Cert.RefLoop
-- ==== Proof.RefOut.lean ====
/-
  What the reference returns: its first 200 rows, which its last sort leaves in place.
-/
module

public import proofs.«01_k».proof.Proof.RefStart

@[expose] public section

set_option maxRecDepth 16384

noncomputable section

namespace Cert.RefOut

open Idealize.ShloMosaic hiding ix1 ix2 ix3
open Idealize.ShloMosaic.ValueIdx Cert.ReferenceIdeal Cert.ReferenceIdeal.Gen Cert.ReferenceIdeal.Value Cert.Spec Cert.RefLoop

/-- The rows of each image, a row that does not count made 0. -/
abbrev rowsKept (V : Vals) : S8x400x6.Idx → EReal :=
  mulf (F := Ideal) (φ := .f32) (transpose S8x400x6 [1, 0, 2] (rowsOf V) transposes_S400x8x6_S8x400x6_1_0_2)
    (broadcastInDim S8x400x6 ![0, 1, 2] bcast_S8x400x1_S8x400x6_0_1_2
      (uitofp (F := Ideal) .f32 (broadcastInDim S8x400x1 ![0, 1] bcast_S8x400_S8x400x1_0_1 (transpose S8x400 [1, 0] (validOf V) transposes_S400x8_S8x400_1_0))))

/-- The confidences of those rows. -/
abbrev confKept (V : Vals) : S8x400.Idx → EReal :=
  shapeCast S8x400 (extractStridedSlice S8x400x1 ![0, 0, 1] (rowsKept V) slices_S8x400x6_S8x400x1_0_0_1) shapeCasts_S8x400x1_S8x400

/-- The order of the last sort. -/
abbrev orderOf (V : Vals) : IVec S8x200 32 := (Host.topK S8x200 1 TopK.gt (confKept V) sliceFits_S8x400_S8x200).2

theorem out_eq (V : Vals) : (out_main_v110 V : S8x200x6.Idx → EReal)
    = Host.gather gather_S8x400x6_S8x200x1_S8x200x6_2_1_0_0_1_2_116 (rowsKept V) (broadcastInDim S8x200x1 ![0, 1] bcast_S8x200_S8x200x1_0_1 (orderOf V)) := rfl

/-- A number times the truth of `0 < r`. -/
theorem mul_truth (a r : EReal) : a * Scalar.uitofp (F := Ideal) .f32 (Ideal.cmp .ogt r 0) = if 0 < r then a else 0 := by
  show a * ((((Ideal.cmp .ogt r 0).toNat : ℝ)) : EReal) = _
  unfold Ideal.cmp
  by_cases h : 0 < r <;> simp [h]

variable {x : (⟨S8x20000x93, .f32⟩ : BufTy).Contents (Elt Ideal)} {V : Vals}

theorem rowsKept_read (V : Vals) (b : Fin 8) (i : Fin 400) (c : Fin 6) :
    rowsKept V (ix3 b i c) = rowsOf V (ix3 i b c) * Scalar.uitofp (F := Ideal) .f32 (validOf V (ix2 i b)) :=
  congrArg₂ (fun p q : EReal => p * q)
    (congrArg (rowsOf V) (show _ = ix3 i b c from funext fun a => match a with | 0 => rfl | 1 => rfl | 2 => rfl))
    (congrArg (fun q => Scalar.uitofp (F := Ideal) .f32 (validOf V q)) (show _ = ix2 i b from funext fun a => match a with | 0 => rfl | 1 => rfl))

open Classical in
theorem rowsKept_apply (h : Holds x 400 V) (b : Fin 8) (i : Fin 400) (c : Fin 6) : rowsKept V (ix3 b i c) = (boxesAt x b).row i.val c := by
  rw [rowsKept_read, h.rows i b c i.isLt, h.valid i b i.isLt, mul_truth]
  unfold Boxes.row
  exact if_congr Iff.rfl rfl rfl

theorem confKept_apply (h : Holds x 400 V) (b : Fin 8) (i : Fin 400) : confKept V (ix2 b i) = (boxesAt x b).row i.val 1 := by
  rw [← rowsKept_apply h]
  refine (shapeCast_apply _ shapeCasts_S8x400x1_S8x400 _ (ix3 b i (0 : Fin 1)) ?_).trans ?_
  · rw [Shape.rowMajor_val_three, Shape.rowMajor_val_two]
    show (b.val * 400 + i.val) * 1 + 0 = b.val * 400 + i.val
    omega
  · refine congrArg (rowsKept V) (funext fun a => Fin.ext ?_)
    match a with
    | 0 => exact Nat.zero_add _
    | 1 => exact Nat.zero_add _
    | 2 => exact Nat.add_zero _

/-- The last sort leaves the rows in place. -/
theorem orderOf_apply (h : Holds x 400 V) (b : Fin 8) (k : Fin 200) : orderOf V (ix2 b k) = BitVec.ofNat 32 k.val := by
  have hk : k.val < 400 := by omega
  refine (TopK.topK_snd (1 : Fin S8x400.rank) (confKept V) sliceFits_S8x400_S8x200 _ (ix2 b (⟨k.val, hk⟩ : Fin 400)) ?_).trans ?_
  · intro a
    match a with
    | 0 => rfl
    | 1 => rfl
  · have he : ∀ i : Fin 400, Shape.Idx.along (ix2 b (⟨k.val, hk⟩ : Fin 400) : S8x400.Idx) (1 : Fin S8x400.rank) i = ix2 b i :=
      fun i => funext fun a => match a with | 0 => rfl | 1 => rfl
    have hf : (fun i : Fin 400 => confKept V (Shape.Idx.along (ix2 b (⟨k.val, hk⟩ : Fin 400) : S8x400.Idx) (1 : Fin S8x400.rank) i)) = fun i => (boxesAt x b).row i.val 1 :=
      funext fun i => (congrArg (confKept V) (he i)).trans (confKept_apply h b i)
    refine (congrArg (fun f : Fin 400 → EReal => BitVec.ofNat 32 (sortedFrom (TopK.before f) ⟨k.val, hk⟩).val) hf).trans ?_
    rw [TopK.sortedFrom_of_antitone _ fun i j hij => (boxesAt x b).row_one_antitone hij]

/-- Row `k` of image `b`. -/
theorem out_apply (h : Holds x 400 V) (b : Fin 8) (k : Fin 200) (c : Fin 6) :
    (out_main_v110 V : S8x200x6.Idx → EReal) (ix3 b k c) = (boxesAt x b).row k.val c := by
  have hk : k.val < 400 := by omega
  rw [out_eq, RefGather.gather_step _ _ b k c ⟨k.val, hk⟩ ?_]
  · exact rowsKept_apply h b ⟨k.val, hk⟩ c
  · have h1 : broadcastInDim S8x200x1 ![0, 1] bcast_S8x200_S8x200x1_0_1 (orderOf V) (ix3 b k (0 : Fin 1)) = orderOf V (ix2 b k) :=
      congrArg (orderOf V) (show _ = ix2 b k from funext fun a => match a with | 0 => rfl | 1 => rfl)
    rw [h1, orderOf_apply h, Trip.toInt_ofNat_small (by omega)]
    exact Int.toNat_natCast _

end Cert.RefOut
-- ==== Proof.Precondition.lean ====
/-
  The precondition: no corner of a candidate is below the word the kernel masks with.
-/
module

public import proofs.«01_k».proof.Proof.Gen.Pre_corners_above_mask
public import proofs.«01_k».proof.Proof.RefEntry
public import proofs.«01_k».proof.Proof.Trip
public import Idealize.ShloMosaic.Lib.ReduceAll

@[expose] public section

set_option maxRecDepth 16384

noncomputable section

namespace Cert.Precondition

open Idealize.ShloMosaic hiding ix1 ix2 ix3
open Idealize.ShloMosaic.ValueIdx Cert.ReferenceIdeal Cert.ReferenceIdeal.Gen Cert.ReferenceIdeal.Step Cert.Spec Cert.Trip

variable (x : (⟨S8x20000x93, .f32⟩ : BufTy).Contents (Elt Ideal))

/-- The four corner fields against the mask. -/
abbrev above : Pre_corners_above_mask.S8x20000x4.Idx → BitVec 1 :=
  cmpf (F := Ideal) (φ := .f32) .oge (extractStridedSlice Pre_corners_above_mask.S8x20000x4 ![0, 0, 2] (A_main_v71 (F := Ideal) x)
      Pre_corners_above_mask.Facts.slices_S8x20000x6_S8x20000x4_0_0_2)
    (broadcastInDim Pre_corners_above_mask.S8x20000x4 ![] Pre_corners_above_mask.Facts.bcast_S_S8x20000x4 (constant (F := Ideal) Pre_corners_above_mask.S_ .f32 0xFF7FC99E#32))

theorem fn_eq : Pre_corners_above_mask.fn (F := Ideal) x
    = Host.reduce IntOp.andi (above x) (constantI Pre_corners_above_mask.S_ 1 1#1) Pre_corners_above_mask.Facts.reducesTo_S8x20000x4_S_d0_1_2 Pre_corners_above_mask.Facts.h_S_ := rfl

theorem cmp_oge (a b : EReal) : Ideal.cmp .oge a b = 1#1 ↔ b ≤ a := by
  unfold Ideal.cmp
  by_cases h : b ≤ a <;> simp [h]

variable {x}

/-- A corner field is at least the mask. -/
theorem field_above (h : Pre_corners_above_mask.fn (F := Ideal) x = fun _ => 1#1) (b : Fin 8) (j : Fin 20000) (k : Fin 4) :
    mask ≤ (boxesAt x b).field ⟨k.val + 2, by omega⟩ j := by
  have h1 : Host.reduce IntOp.andi (above x) (constantI Pre_corners_above_mask.S_ 1 1#1) Pre_corners_above_mask.Facts.reducesTo_S8x20000x4_S_d0_1_2
      Pre_corners_above_mask.Facts.h_S_ (Shape.Idx.first Pre_corners_above_mask.Facts.h_S_) = 1#1 := (congrFun (fn_eq x) _).symm.trans (congrFun h _)
  have h2 := Host.reduce_andi_all _ _ _ _ _ h1 (ix3 b j k)
  rw [← RefEntry.field_apply x b j]
  refine ((cmp_oge _ _).mp h2).trans (le_of_eq (congrArg (A_main_v71 (F := Ideal) x) (funext fun a => Fin.ext ?_)))
  match a with
  | 0 => exact Nat.zero_add _
  | 1 => exact Nat.zero_add _
  | 2 => exact Nat.add_comm _ _

theorem corners_above (h : Pre_corners_above_mask.fn (F := Ideal) x = fun _ => 1#1) (b : Fin 8) : Above mask (boxesAt x b) :=
  fun j => ⟨field_above h b j 0, field_above h b j 1, field_above h b j 2, field_above h b j 3⟩

end Cert.Precondition
-- ==== Proof.Equation.lean ====
/-
  The equation: from one input the kernel and the reference return the same rows.
-/
module

public import proofs.«01_k».proof.Proof.LaunchArray
public import proofs.«01_k».proof.Proof.KernelBlock
public import proofs.«01_k».proof.Proof.Operand
public import proofs.«01_k».proof.Proof.RefOut
public import proofs.«01_k».proof.Proof.Precondition

@[expose] public section

set_option maxRecDepth 16384

noncomputable section

namespace Cert.Equation

open Idealize.ShloMosaic hiding ix1 ix2 ix3
open Idealize.ShloMosaic.TcCoe Idealize.ShloMosaic.ValueIdx Cert.Spec Cert.Trip

/-- An index of the result is its three coordinates. -/
theorem index_eq (i : Cert.KernelIdeal.S8x200x6.Idx) : i = ix3 (i 0 : Fin 8) (i 1 : Fin 200) (i 2 : Fin 6) :=
  funext fun a => match a with | 0 => rfl | 1 => rfl | 2 => rfl

variable (m : (ℓ : Loc Cert.KernelIdeal.nD Cert.KernelIdeal.τ Cert.KernelIdeal.sig) → Buf (Elt Ideal) ℓ) (c : Dev Cert.KernelIdeal.nD)

/-- The kernel's input. -/
abbrev input : (⟨Cert.ReferenceIdeal.S8x20000x93, .f32⟩ : BufTy).Contents (Elt Ideal) :=
  m ((c.tc : Thread Cert.KernelIdeal.nD Cert.KernelIdeal.τ).loc Cert.KernelIdeal.main_arg0)

/-- What the kernel returns, at row `k` of image `b`. -/
theorem kernel_apply (h : Cert.Pre_corners_above_mask.fn (F := Ideal) (input m c) = fun _ => 1#1) (b : Fin 8) (k : Fin 200) (f : Fin 6) :
    Cert.KernelRun.resultOf (Cert.KernelRun.operand m c) (ix3 b k f) = (boxesAt (input m c) b).row k.val f := by
  have hb := Cert.Operand.boxes_block m c b
  refine (Cert.KernelBlock.outBlock_apply (Cert.KernelRun.blockOf (Cert.KernelRun.operand m c) b) ?_ k f).trans ?_
  · rw [hb]; exact Cert.Precondition.corners_above h b
  · rw [hb]

/-- The two results are equal. -/
theorem result_eq (h : Cert.Pre_corners_above_mask.fn (F := Ideal) (input m c) = fun _ => 1#1)
    (V : Cert.RefLoop.Vals) (hV : Cert.RefLoop.Holds (input m c) 400 V) :
    (Cert.ReferenceIdeal.Value.out_main_v110 V : Cert.KernelIdeal.S8x200x6.Idx → EReal) = Cert.KernelRun.resultOf (Cert.KernelRun.operand m c) := by
  funext i
  rw [index_eq i]
  exact (Cert.RefOut.out_apply hV (i 0) (i 1) (i 2)).trans (kernel_apply m c h (i 0) (i 1) (i 2)).symm

end Cert.Equation

end
-- ==== Proof.lean ====
/-
  The claims assembled: the three frames, the kernel's from its launch and the reference's from its loop; and, of an input whose corners are
  not below the kernel's mask, the kernel's result equal to the reference's.
-/
module

public import proofs.«01_k».proof.Defs
public import proofs.«01_k».proof.Proof.Twin
public import proofs.«01_k».proof.Proof.Equation
public import Idealize.ShloMosaic.Adequacy
public import Idealize.ShloMosaic.Init

@[expose] public section

noncomputable section

namespace Cert.Proof

open Idealize.ShloMosaic Idealize.SL.Sem

/-- The kernel as printed ends with its argument unchanged and every counter at zero. -/
theorem kernel_frame : quiescent_Kernel (hKernel := Cert.Kernel.Gen.facts) := fun m g _ => by
  have h := Cert.KernelRun.quiescent (F := Bits) m g
  rw [← Cert.Twin.defs_eq] at h
  exact h

/-- The reference ends with its argument unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2, sem_eq_zero_of_no_sems (by decide) r.2⟩) (Cert.ReferenceIdeal.Value.run m g)

/-- The kernel and the reference return the same rows. -/
theorem kernel_eq_reference : algebraic_KernelIdeal_ReferenceIdeal_pre_corners_above_mask (hKernelIdeal := Cert.KernelIdeal.Gen.facts)
    (hReferenceIdeal := Cert.ReferenceIdeal.Gen.facts) (hPre_corners_above_mask := Cert.Pre_corners_above_mask.Gen.facts) := fun m g m' g' hpre hagree =>
  ⟨fun c => Cert.KernelRun.resultOf (Cert.KernelRun.operand m c), Cert.KernelRun.run m g,
    (θ_run Cert.ReferenceIdeal.defs _ _).mono (fun r h c => ⟨(h c).1.trans (Cert.Equation.result_eq m c (hpre c) _ (by
      have e := Cert.RefLoop.holds_end m' c
      rw [show Cert.RefLoop.input m' c = Cert.Equation.input m c from hagree c] at e
      exact e)), (h c).2⟩) (Cert.ReferenceIdeal.Value.run m' g')⟩

theorem claim : Cert.Claim :=
  ⟨Cert.Kernel.Gen.facts, Cert.KernelIdeal.Gen.facts, Cert.ReferenceIdeal.Gen.facts, Cert.Pre_corners_above_mask.Gen.facts, kernel_frame,
    fun m g _ => Cert.KernelRun.quiescent m g, fun m g _ => Cert.KernelRun.quiescent m g, fun m g _ => reference_frame m g,
    fun m g _ => reference_frame m g, trivial, kernel_eq_reference⟩

end Cert.Proof

end
